-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "qscale" .f32 0x3E8293EE#32 (((Real.log 2)⁻¹ * (Real.sqrt 32)⁻¹ : ℝ) : EReal)
  ∧ IdealRules.named_const.Statement Cert.KernelIdeal.κ "rsqrt2" .f32 0x3F3504F3#32 (((Real.sqrt 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S8x32x32x4x128 : Shape := ⟨5, ![8, 32, 32, 4, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x32x32x4x128 .f32) (main_arg1 : FVec F S128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x512 .f32) (main_arg14 : FVec F S512 .f32) (main_arg15 : FVec F S512x128 .f32) (main_arg16 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S8x32x32x4x128 : Shape := ⟨5, ![8, 32, 32, 4, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S8x4096x128 : Shape := ⟨3, ![8, 4096, 128]⟩
abbrev S1x128 : Shape := ⟨2, ![1, 128]⟩
abbrev S1x512 : Shape := ⟨2, ![1, 512]⟩
abbrev S2x4096x128 : Shape := ⟨3, ![2, 4096, 128]⟩
abbrev S1x4096x128 : Shape := ⟨3, ![1, 4096, 128]⟩
abbrev S4096x128 : Shape := ⟨2, ![4096, 128]⟩
abbrev S32x32x4x128 : Shape := ⟨4, ![32, 32, 4, 128]⟩
abbrev S32x1x32x1x4x128 : Shape := ⟨6, ![32, 1, 32, 1, 4, 128]⟩
abbrev S32x1x32x1x1x128 : Shape := ⟨6, ![32, 1, 32, 1, 1, 128]⟩
abbrev S32x32x128 : Shape := ⟨3, ![32, 32, 128]⟩
abbrev S1024x128 : Shape := ⟨2, ![1024, 128]⟩
abbrev S16x2x16x2x4x128 : Shape := ⟨6, ![16, 2, 16, 2, 4, 128]⟩
abbrev S16x1x16x1x1x128 : Shape := ⟨6, ![16, 1, 16, 1, 1, 128]⟩
abbrev S16x16x128 : Shape := ⟨3, ![16, 16, 128]⟩
abbrev S256x128 : Shape := ⟨2, ![256, 128]⟩
abbrev S8x4x8x4x4x128 : Shape := ⟨6, ![8, 4, 8, 4, 4, 128]⟩
abbrev S8x1x8x1x1x128 : Shape := ⟨6, ![8, 1, 8, 1, 1, 128]⟩
abbrev S8x8x128 : Shape := ⟨3, ![8, 8, 128]⟩
abbrev S64x128 : Shape := ⟨2, ![64, 128]⟩
abbrev S4x8x4x8x4x128 : Shape := ⟨6, ![4, 8, 4, 8, 4, 128]⟩
abbrev S4x1x4x1x1x128 : Shape := ⟨6, ![4, 1, 4, 1, 1, 128]⟩
abbrev S4x4x128 : Shape := ⟨3, ![4, 4, 128]⟩
abbrev S16x128 : Shape := ⟨2, ![16, 128]⟩
abbrev S1360x128 : Shape := ⟨2, ![1360, 128]⟩
abbrev S1360 : Shape := ⟨1, ![1360]⟩
abbrev S1360x1 : Shape := ⟨2, ![1360, 1]⟩
abbrev S1360x32 : Shape := ⟨2, ![1360, 32]⟩
abbrev S1360x33 : Shape := ⟨2, ![1360, 33]⟩
abbrev S1360x1360 : Shape := ⟨2, ![1360, 1360]⟩
abbrev S33x1360 : Shape := ⟨2, ![33, 1360]⟩
abbrev S32x1360 : Shape := ⟨2, ![32, 1360]⟩
abbrev S1x1360 : Shape := ⟨2, ![1, 1360]⟩
abbrev S128x1360 : Shape := ⟨2, ![128, 1360]⟩
abbrev S32x1x32x1x128 : Shape := ⟨5, ![32, 1, 32, 1, 128]⟩
abbrev S32x32x1x128 : Shape := ⟨4, ![32, 32, 1, 128]⟩
abbrev S16x1x16x1x128 : Shape := ⟨5, ![16, 1, 16, 1, 128]⟩
abbrev S16x2x16x2x128 : Shape := ⟨5, ![16, 2, 16, 2, 128]⟩
abbrev S8x1x8x1x128 : Shape := ⟨5, ![8, 1, 8, 1, 128]⟩
abbrev S8x4x8x4x128 : Shape := ⟨5, ![8, 4, 8, 4, 128]⟩
abbrev S4x1x4x1x128 : Shape := ⟨5, ![4, 1, 4, 1, 128]⟩
abbrev S4x8x4x8x128 : Shape := ⟨5, ![4, 8, 4, 8, 128]⟩
abbrev S4096 : Shape := ⟨1, ![4096]⟩
abbrev S4096x1 : Shape := ⟨2, ![4096, 1]⟩
abbrev S4096x512 : Shape := ⟨2, ![4096, 512]⟩

abbrev nBuf : Space → Nat
  | .hbm => 30
  | .vmem => 20
  | .smem => 0
  | _ => 0

abbrev bufTy : (tb : Table) → Fin (tcTables nBuf tb) → BufTy
  | .hbm, ⟨0, _⟩ => ⟨S8x32x32x4x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x512, .f32⟩
  | .hbm, ⟨14, _⟩ => ⟨S512, .f32⟩
  | .hbm, ⟨15, _⟩ => ⟨S512x128, .f32⟩
  | .hbm, ⟨16, _⟩ => ⟨S128, .f32⟩
  | .hbm, ⟨17, _⟩ => ⟨S8x4096x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x512, .f32⟩
  | .hbm, ⟨27, _⟩ => ⟨S1x128, .f32⟩
  | .hbm, ⟨28, _⟩ => ⟨S8x4096x128, .f32⟩
  | .hbm, ⟨29, _⟩ => ⟨S8x32x32x4x128, .f32⟩
  | .local _ .vmem, ⟨0, _⟩ => ⟨S2x4096x128, .f32⟩
  | .local _ .vmem, ⟨1, _⟩ => ⟨S2x4096x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x512, .f32⟩
  | .local _ .vmem, ⟨15, _⟩ => ⟨S1x512, .f32⟩
  | .local _ .vmem, ⟨16, _⟩ => ⟨S512x128, .f32⟩
  | .local _ .vmem, ⟨17, _⟩ => ⟨S1x128, .f32⟩
  | .local _ .vmem, ⟨18, _⟩ => ⟨S2x4096x128, .f32⟩
  | .local _ .vmem, ⟨19, _⟩ => ⟨S2x4096x128, .f32⟩
  | _, _ => ⟨S8x32x32x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2x4096x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "qscale" => some (((Real.log 2)⁻¹ * (Real.sqrt 32)⁻¹ : ℝ) : EReal)
  | "rsqrt2" => some (((Real.sqrt 2)⁻¹ : ℝ) : EReal)
  | _ => none
-- ==== ReferenceIdeal.lean ====
abbrev S8x32x32x4x128 : Shape := ⟨5, ![8, 32, 32, 4, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S512x128 : Shape := ⟨2, ![512, 128]⟩
abbrev S4096 : Shape := ⟨1, ![4096]⟩
abbrev S1360 : Shape := ⟨1, ![1360]⟩
abbrev S_ : Shape := ⟨0, ![]⟩
abbrev S8x32x32x4 : Shape := ⟨4, ![8, 32, 32, 4]⟩
abbrev S8x32x32x4x1 : Shape := ⟨5, ![8, 32, 32, 4, 1]⟩
abbrev S1x1x1x1x128 : Shape := ⟨5, ![1, 1, 1, 1, 128]⟩
abbrev S8x4096x128 : Shape := ⟨3, ![8, 4096, 128]⟩
abbrev S1360x1 : Shape := ⟨2, ![1360, 1]⟩
abbrev S1 : Shape := ⟨1, ![1]⟩
abbrev S1x1 : Shape := ⟨2, ![1, 1]⟩
abbrev S8x1360x128 : Shape := ⟨3, ![8, 1360, 128]⟩
abbrev S1x1x128 : Shape := ⟨3, ![1, 1, 128]⟩
abbrev S8x1360x4x32 : Shape := ⟨4, ![8, 1360, 4, 32]⟩
abbrev S8x4x1360x32 : Shape := ⟨4, ![8, 4, 1360, 32]⟩
abbrev S8x4x32x1360 : Shape := ⟨4, ![8, 4, 32, 1360]⟩
abbrev S8x4x1360x1360 : Shape := ⟨4, ![8, 4, 1360, 1360]⟩
abbrev S8x4x1360 : Shape := ⟨3, ![8, 4, 1360]⟩
abbrev S8x4x1360x1 : Shape := ⟨4, ![8, 4, 1360, 1]⟩
abbrev S4096x1 : Shape := ⟨2, ![4096, 1]⟩
abbrev S8x4096x512 : Shape := ⟨3, ![8, 4096, 512]⟩
abbrev S1x1x512 : Shape := ⟨3, ![1, 1, 512]⟩

abbrev nBuf : Space → Nat
  | .hbm => 192
  | .vmem => 0
  | .smem => 0
  | _ => 0

abbrev hbmTy0_0 (i : Nat) : BufTy := match i % 128 with
  | 0 => ⟨S8x32x32x4x128, .f32⟩
  | 1 => ⟨S128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x512, .f32⟩
  | 14 => ⟨S512, .f32⟩
  | 15 => ⟨S512x128, .f32⟩
  | 16 => ⟨S128, .f32⟩
  | 17 => ⟨S4096, .i32⟩
  | 18 => ⟨S1360, .i32⟩
  | 19 => ⟨S_, .f32⟩
  | 20 => ⟨S8x32x32x4, .f32⟩
  | 21 => ⟨S8x32x32x4x1, .f32⟩
  | 22 => ⟨S_, .f32⟩
  | 23 => ⟨S8x32x32x4x1, .f32⟩
  | 24 => ⟨S8x32x32x4x1, .f32⟩
  | 25 => ⟨S8x32x32x4x128, .f32⟩
  | 26 => ⟨S8x32x32x4x128, .f32⟩
  | 27 => ⟨S8x32x32x4x128, .f32⟩
  | 28 => ⟨S_, .f32⟩
  | 29 => ⟨S8x32x32x4, .f32⟩
  | 30 => ⟨S8x32x32x4x1, .f32⟩
  | 31 => ⟨S_, .f32⟩
  | 32 => ⟨S8x32x32x4x1, .f32⟩
  | 33 => ⟨S8x32x32x4x1, .f32⟩
  | 34 => ⟨S8x32x32x4x128, .f32⟩
  | 35 => ⟨S8x32x32x4x128, .f32⟩
  | 36 => ⟨S_, .f32⟩
  | 37 => ⟨S8x32x32x4x1, .f32⟩
  | 38 => ⟨S8x32x32x4x1, .f32⟩
  | 39 => ⟨S8x32x32x4x1, .f32⟩
  | 40 => ⟨S8x32x32x4x128, .f32⟩
  | 41 => ⟨S8x32x32x4x128, .f32⟩
  | 42 => ⟨S1x1x1x1x128, .f32⟩
  | 43 => ⟨S8x32x32x4x128, .f32⟩
  | 44 => ⟨S8x32x32x4x128, .f32⟩
  | 45 => ⟨S1x1x1x1x128, .f32⟩
  | 46 => ⟨S8x32x32x4x128, .f32⟩
  | 47 => ⟨S8x32x32x4x128, .f32⟩
  | 48 => ⟨S8x4096x128, .f32⟩
  | 49 => ⟨S_, .i32⟩
  | 50 => ⟨S1360, .i32⟩
  | 51 => ⟨S1360, .i1⟩
  | 52 => ⟨S_, .i32⟩
  | 53 => ⟨S1360, .i32⟩
  | 54 => ⟨S1360, .i32⟩
  | 55 => ⟨S1360, .i32⟩
  | 56 => ⟨S1360x1, .i32⟩
  | 57 => ⟨S1, .i32⟩
  | 58 => ⟨S_, .i32⟩
  | 59 => ⟨S1360x1, .i32⟩
  | 60 => ⟨S1360x1, .i1⟩
  | 61 => ⟨S1x1, .i32⟩
  | 62 => ⟨S1360x1, .i32⟩
  | 63 => ⟨S1360x1, .i1⟩
  | 64 => ⟨S1360x1, .i1⟩
  | 65 => ⟨S_, .i1⟩
  | 66 => ⟨S1360, .i1⟩
  | 67 => ⟨S8x1360x128, .f32⟩
  | 68 => ⟨S8x1360x128, .i1⟩
  | 69 => ⟨S_, .f32⟩
  | 70 => ⟨S8x1360x128, .f32⟩
  | 71 => ⟨S8x1360x128, .f32⟩
  | 72 => ⟨S8x1360x128, .f32⟩
  | 73 => ⟨S1x1x128, .f32⟩
  | 74 => ⟨S8x1360x128, .f32⟩
  | 75 => ⟨S8x1360x128, .f32⟩
  | 76 => ⟨S8x1360x4x32, .f32⟩
  | 77 => ⟨S8x4x1360x32, .f32⟩
  | 78 => ⟨S8x1360x128, .f32⟩
  | 79 => ⟨S1x1x128, .f32⟩
  | 80 => ⟨S8x1360x128, .f32⟩
  | 81 => ⟨S8x1360x128, .f32⟩
  | 82 => ⟨S8x1360x4x32, .f32⟩
  | 83 => ⟨S8x4x1360x32, .f32⟩
  | 84 => ⟨S8x1360x128, .f32⟩
  | 85 => ⟨S1x1x128, .f32⟩
  | 86 => ⟨S8x1360x128, .f32⟩
  | 87 => ⟨S8x1360x128, .f32⟩
  | 88 => ⟨S8x1360x4x32, .f32⟩
  | 89 => ⟨S8x4x1360x32, .f32⟩
  | 90 => ⟨S8x4x32x1360, .f32⟩
  | 91 => ⟨S8x4x1360x1360, .f32⟩
  | 92 => ⟨S_, .f32⟩
  | 93 => ⟨S_, .f32⟩
  | 94 => ⟨S8x4x1360x1360, .f32⟩
  | 95 => ⟨S8x4x1360x1360, .f32⟩
  | 96 => ⟨S_, .f32⟩
  | 97 => ⟨S8x4x1360, .f32⟩
  | 98 => ⟨S_, .f32⟩
  | 99 => ⟨S8x4x1360, .f32⟩
  | 100 => ⟨S8x4x1360, .f32⟩
  | 101 => ⟨S8x4x1360x1, .f32⟩
  | 102 => ⟨S8x4x1360x1360, .f32⟩
  | 103 => ⟨S8x4x1360x1360, .f32⟩
  | 104 => ⟨S8x4x1360x1360, .f32⟩
  | 105 => ⟨S_, .f32⟩
  | 106 => ⟨S8x4x1360, .f32⟩
  | 107 => ⟨S8x4x1360x1, .f32⟩
  | 108 => ⟨S8x4x1360x1360, .f32⟩
  | 109 => ⟨S8x4x1360x1360, .f32⟩
  | 110 => ⟨S8x4x1360x32, .f32⟩
  | 111 => ⟨S8x1360x4x32, .f32⟩
  | 112 => ⟨S8x1360x128, .f32⟩
  | 113 => ⟨S8x1360x128, .f32⟩
  | 114 => ⟨S1x1x128, .f32⟩
  | 115 => ⟨S8x1360x128, .f32⟩
  | 116 => ⟨S8x1360x128, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S1, .i32⟩
  | 126 => ⟨S_, .i32⟩
  | 127 => ⟨S4096x1, .i32⟩
  | _ => ⟨S8x32x32x4x128, .f32⟩

abbrev hbmTy0_1 (i : Nat) : BufTy := match i % 128 with
  | 0 => ⟨S4096x1, .i1⟩
  | 1 => ⟨S1x1, .i32⟩
  | 2 => ⟨S4096x1, .i32⟩
  | 3 => ⟨S4096x1, .i1⟩
  | 4 => ⟨S4096x1, .i1⟩
  | 5 => ⟨S_, .i1⟩
  | 6 => ⟨S4096, .i1⟩
  | 7 => ⟨S8x4096x128, .f32⟩
  | 8 => ⟨S8x4096x128, .i1⟩
  | 9 => ⟨S_, .f32⟩
  | 10 => ⟨S8x4096x128, .f32⟩
  | 11 => ⟨S8x4096x128, .f32⟩
  | 12 => ⟨S8x32x32x4x128, .f32⟩
  | 13 => ⟨S8x32x32x4x128, .f32⟩
  | 14 => ⟨S_, .f32⟩
  | 15 => ⟨S8x32x32x4, .f32⟩
  | 16 => ⟨S8x32x32x4x1, .f32⟩
  | 17 => ⟨S_, .f32⟩
  | 18 => ⟨S8x32x32x4x1, .f32⟩
  | 19 => ⟨S8x32x32x4x1, .f32⟩
  | 20 => ⟨S8x32x32x4x128, .f32⟩
  | 21 => ⟨S8x32x32x4x128, .f32⟩
  | 22 => ⟨S8x32x32x4x128, .f32⟩
  | 23 => ⟨S_, .f32⟩
  | 24 => ⟨S8x32x32x4, .f32⟩
  | 25 => ⟨S8x32x32x4x1, .f32⟩
  | 26 => ⟨S_, .f32⟩
  | 27 => ⟨S8x32x32x4x1, .f32⟩
  | 28 => ⟨S8x32x32x4x1, .f32⟩
  | 29 => ⟨S8x32x32x4x128, .f32⟩
  | 30 => ⟨S8x32x32x4x128, .f32⟩
  | 31 => ⟨S_, .f32⟩
  | 32 => ⟨S8x32x32x4x1, .f32⟩
  | 33 => ⟨S8x32x32x4x1, .f32⟩
  | 34 => ⟨S8x32x32x4x1, .f32⟩
  | 35 => ⟨S8x32x32x4x128, .f32⟩
  | 36 => ⟨S8x32x32x4x128, .f32⟩
  | 37 => ⟨S1x1x1x1x128, .f32⟩
  | 38 => ⟨S8x32x32x4x128, .f32⟩
  | 39 => ⟨S8x32x32x4x128, .f32⟩
  | 40 => ⟨S1x1x1x1x128, .f32⟩
  | 41 => ⟨S8x32x32x4x128, .f32⟩
  | 42 => ⟨S8x32x32x4x128, .f32⟩
  | 43 => ⟨S8x4096x128, .f32⟩
  | 44 => ⟨S8x4096x512, .f32⟩
  | 45 => ⟨S1x1x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S8x4096x512, .f32⟩
  | 52 => ⟨S_, .f32⟩
  | 53 => ⟨S_, .f32⟩
  | 54 => ⟨S8x4096x512, .f32⟩
  | 55 => ⟨S8x4096x512, .f32⟩
  | 56 => ⟨S8x4096x512, .f32⟩
  | 57 => ⟨S8x4096x512, .f32⟩
  | 58 => ⟨S8x4096x128, .f32⟩
  | 59 => ⟨S1x1x128, .f32⟩
  | 60 => ⟨S8x4096x128, .f32⟩
  | 61 => ⟨S8x4096x128, .f32⟩
  | 62 => ⟨S8x32x32x4x128, .f32⟩
  | 63 => ⟨S8x32x32x4x128, .f32⟩
  | _ => ⟨S8x32x32x4x128, .f32⟩

abbrev hbmTy (i : Nat) : BufTy := match i / 128 with
  | 0 => hbmTy0_0 i
  | 1 => hbmTy0_1 i
  | _ => ⟨S8x32x32x4x128, .f32⟩

abbrev bufTy : (tb : Table) → Fin (tcTables nBuf tb) → BufTy
  | .hbm, ⟨i, _⟩ => hbmTy i
  | _, _ => ⟨S8x32x32x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_6 : Ref sig .tc := ⟨.hbm, 96, rfl⟩
abbrev main_v49 : Ref sig .tc := ⟨.hbm, 97, rfl⟩
abbrev main_cst_7 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_8 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_call1_c : Ref sig .tc := ⟨.hbm, 117, rfl⟩
abbrev main_call1_v0 : Ref sig .tc := ⟨.hbm, 118, rfl⟩
abbrev main_call1_v1 : Ref sig .tc := ⟨.hbm, 119, rfl⟩
abbrev main_call1_c_0 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_c_1 : Ref sig .tc := ⟨.hbm, 125, rfl⟩
abbrev main_call1_c_2 : Ref sig .tc := ⟨.hbm, 126, rfl⟩
abbrev main_call1_v6 : Ref sig .tc := ⟨.hbm, 127, rfl⟩
abbrev main_call1_v7 : Ref sig .tc := ⟨.hbm, 128, rfl⟩
abbrev main_call1_v8 : Ref sig .tc := ⟨.hbm, 129, rfl⟩
abbrev main_call1_v9 : Ref sig .tc := ⟨.hbm, 130, rfl⟩
abbrev main_call1_v10 : Ref sig .tc := ⟨.hbm, 131, rfl⟩
abbrev main_call1_v11 : Ref sig .tc := ⟨.hbm, 132, rfl⟩
abbrev main_call1_c_3 : Ref sig .tc := ⟨.hbm, 133, rfl⟩
abbrev main_call1_v12 : Ref sig .tc := ⟨.hbm, 134, rfl⟩
abbrev main_call1_v13 : Ref sig .tc := ⟨.hbm, 135, rfl⟩
abbrev main_call1_v14 : Ref sig .tc := ⟨.hbm, 136, rfl⟩
abbrev main_call1_cst : Ref sig .tc := ⟨.hbm, 137, rfl⟩
abbrev main_call1_v15 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_cst_9 : Ref sig .tc := ⟨.hbm, 142, rfl⟩
abbrev main_v70 : Ref sig .tc := ⟨.hbm, 143, rfl⟩
abbrev main_v71 : Ref sig .tc := ⟨.hbm, 144, rfl⟩
abbrev main_cst_10 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_11 : Ref sig .tc := ⟨.hbm, 151, rfl⟩
abbrev main_v77 : Ref sig .tc := ⟨.hbm, 152, rfl⟩
abbrev main_v78 : Ref sig .tc := ⟨.hbm, 153, rfl⟩
abbrev main_cst_12 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_13 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_cst_14 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_cst_15 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩

abbrev nD : Nat := 1
abbrev τ : Topo := Topo.v7x

variable {F : FTy → Type} [FloatOps F]
-- ==== Proof.Pre.lean ====
/-
  What the precondition says: every entry of the six parameters the attention's scores are computed from is a real.
-/
module

public import proofs.«01_k».proof.Pre_scores_finite
public import Idealize.ShloMosaic.Lib.ReduceAll
public import Idealize.ShloMosaic.Lib.Pointwise
public import Idealize.ShloMosaic.PureOps.Ideal

@[expose] public section

noncomputable section

namespace Cert.Pre_scores_finite

open Idealize.ShloMosaic

/-- The shape relations the predicate states. -/
theorem facts : Facts where
  bcast_S_S128 := by decide
  reducesTo_S128_S_d0 := by decide
  h_S_ := by decide
  bcast_S_S128x128 := by decide
  reducesTo_S128x128_S_d0_1 := by decide

/-- A value whose absolute value is below infinity is a real. -/
theorem real_of_lt (a : EReal) (h : Ideal.cmp .olt (max a (-a)) (Ideal.ofBits .f32 0x7F800000#32) = 1#1) :
    ∃ r : ℝ, a = r := by
  have htop : Ideal.ofBits .f32 0x7F800000#32 = ⊤ := by simp [Ideal.ofBits, Ideal.ieee]
  rw [htop] at h
  induction a using EReal.rec with
  | bot => exact absurd h (by simp [Ideal.cmp])
  | coe r => exact ⟨r, rfl⟩
  | top => exact absurd h (by simp [Ideal.cmp])

/-- An array every entry of which passes the test is an array of reals. -/
theorem real_of_all {s : Shape} {axes : List (Fin s.rank)} (x : FVec Ideal s .f32) (hb : S_.BroadcastsInDim s ![])
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : ∃ r : ℝ, x i = (r : EReal) := by
  haveI : Subsingleton S_.Idx := ⟨fun a b => funext fun k => k.elim0⟩
  exact real_of_lt _ (Host.reduce_andi_all _ _ h hu _ e i)

/-- The precondition: the six parameters are arrays of reals. -/
theorem reals [Facts] (x : FVec Ideal S8x32x32x4x128 .f32) (g b : FVec Ideal S128 .f32) (wq : FVec Ideal S128x128 .f32)
    (bq : FVec Ideal S128 .f32) (wk : FVec Ideal S128x128 .f32) (bk : FVec Ideal S128 .f32)
    (wv : FVec Ideal S128x128 .f32) (bv : FVec Ideal S128 .f32) (wo : FVec Ideal S128x128 .f32)
    (bo g2 b2 : FVec Ideal S128 .f32) (w1 : FVec Ideal S128x512 .f32) (c1 : FVec Ideal S512 .f32)
    (w2 : FVec Ideal S512x128 .f32) (c2 : FVec Ideal S128 .f32)
    (h : fn (F := Ideal) x g b wq bq wk bk wv bv wo bo g2 b2 w1 c1 w2 c2 = fun _ => 1#1) :
    (∀ i, ∃ r : ℝ, g i = (r : EReal)) ∧ (∀ i, ∃ r : ℝ, b i = (r : EReal)) ∧ (∀ i, ∃ r : ℝ, wq i = (r : EReal))
      ∧ (∀ i, ∃ r : ℝ, bq i = (r : EReal)) ∧ (∀ i, ∃ r : ℝ, wk i = (r : EReal)) ∧ ∀ i, ∃ r : ℝ, bk i = (r : EReal) := by
  have e := congrFun h (fun k : Fin 0 => k.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_all g _ _ _ _ e1, real_of_all b _ _ _ _ e2, real_of_all wq _ _ _ _ e3, real_of_all bq _ _ _ _ e4,
    real_of_all wk _ _ _ _ e5, real_of_all bk _ _ _ _ e6⟩

end Cert.Pre_scores_finite

end
-- ==== Proof.Stages.lean ====
/-
  The kernel's block function in stages, each over the vectors it takes: the representative rows of one batch element,
  their normalisation, the projections, one attention head, the output projection with its broadcast back to the
  positions, and the feed-forward layer.
-/
module

public import proofs.«01_k».proof.Proof.Gen.KernelIdeal.Skeleton

@[expose] public section

set_option maxRecDepth 16384

noncomputable section

namespace Cert.KernelIdeal.Stages

open Cert.KernelIdeal Cert.KernelIdeal.Gen Idealize.ShloMosaic Idealize.ShloMosaic.TcCoe

/-- The rows of one level of the grid, one per block of equal representatives, of `x` (a batch element's 4096 rows);
    all four levels, one after the other. -/
def reps (x : FVec Ideal S4096x128 .f32) : FVec Ideal S1360x128 .f32 :=
  concatenate S1360x128 0
    [⟨S1024x128, shapeCast S1024x128 (shapeCast S32x32x128 (extractStridedSlice S32x1x32x1x1x128 ![0, 0, 0, 0, 0, 0]
        (shapeCast S32x1x32x1x4x128 (shapeCast S32x32x4x128 x shapeCasts_S4096x128_S32x32x4x128)
          shapeCasts_S32x32x4x128_S32x1x32x1x4x128) slices_S32x1x32x1x4x128_o0_0_0_0_0_0_S32x1x32x1x1x128)
        shapeCasts_S32x1x32x1x1x128_S32x32x128) shapeCasts_S32x32x128_S1024x128⟩,
     ⟨S256x128, shapeCast S256x128 (shapeCast S16x16x128 (extractStridedSlice S16x1x16x1x1x128 ![0, 0, 0, 0, 1, 0]
        (shapeCast S16x2x16x2x4x128 (shapeCast S32x32x4x128 x shapeCasts_S4096x128_S32x32x4x128)
          shapeCasts_S32x32x4x128_S16x2x16x2x4x128) slices_S16x2x16x2x4x128_o0_0_0_0_1_0_S16x1x16x1x1x128)
        shapeCasts_S16x1x16x1x1x128_S16x16x128) shapeCasts_S16x16x128_S256x128⟩,
     ⟨S64x128, shapeCast S64x128 (shapeCast S8x8x128 (extractStridedSlice S8x1x8x1x1x128 ![0, 0, 0, 0, 2, 0]
        (shapeCast S8x4x8x4x4x128 (shapeCast S32x32x4x128 x shapeCasts_S4096x128_S32x32x4x128)
          shapeCasts_S32x32x4x128_S8x4x8x4x4x128) slices_S8x4x8x4x4x128_o0_0_0_0_2_0_S8x1x8x1x1x128)
        shapeCasts_S8x1x8x1x1x128_S8x8x128) shapeCasts_S8x8x128_S64x128⟩,
     ⟨S16x128, shapeCast S16x128 (shapeCast S4x4x128 (extractStridedSlice S4x1x4x1x1x128 ![0, 0, 0, 0, 3, 0]
        (shapeCast S4x8x4x8x4x128 (shapeCast S32x32x4x128 x shapeCasts_S4096x128_S32x32x4x128)
          shapeCasts_S32x32x4x128_S4x8x4x8x4x128) slices_S4x8x4x8x4x128_o0_0_0_0_3_0_S4x1x4x1x1x128)
        shapeCasts_S4x1x4x1x1x128_S4x4x128) shapeCasts_S4x4x128_S16x128⟩]
    concatenates_S1024x128_S256x128_S64x128_S16x128_S1360x128_d0

/-- A parameter row repeated over the 1360 nodes. -/
def rowN (b : FVec Ideal S1x128 .f32) : FVec Ideal S1360x128 .f32 :=
  broadcastTo S1360x128 (shapeCast S1x128 (shapeCast S128 b shapeCasts_S1x128_S128) shapeCasts_S128_S1x128)
    broadcasts_S1x128_S1360x128

/-- A parameter row repeated over the 4096 positions. -/
def rowP (b : FVec Ideal S1x128 .f32) : FVec Ideal S4096x128 .f32 :=
  broadcastTo S4096x128 (shapeCast S1x128 (shapeCast S128 b shapeCasts_S1x128_S128) shapeCasts_S128_S1x128)
    broadcasts_S1x128_S4096x128

/-- The mean of each node's row. -/
def meanN (x : FVec Ideal S1360x128 .f32) : FVec Ideal S1360x1 .f32 :=
  divf (shapeCast S1360x1 (multiReduction .add [1] S1360 x 0x00000000#32 reduces_S1360x128_S1360 (.inl rfl) rfl)
    shapeCasts_S1360_S1360x1) (broadcast S1360x1 (Scalar.ofBits .f32 0x43000000#32))

/-- Each node's row less its mean. -/
def devN (x : FVec Ideal S1360x128 .f32) : FVec Ideal S1360x128 .f32 :=
  subf x (broadcastTo S1360x128 (meanN x) broadcasts_S1360x1_S1360x128)

/-- The nodes' rows normalised, with gain and bias. -/
def lnN (x : FVec Ideal S1360x128 .f32) (g b : FVec Ideal S1x128 .f32) : FVec Ideal S1360x128 .f32 :=
  addf (mulf (mulf (devN x) (broadcastTo S1360x128 (rsqrt (addf (meanN (mulf (devN x) (devN x)))
    (broadcast S1360x1 (Scalar.ofBits .f32 0x3727C5AC#32)))) broadcasts_S1360x1_S1360x128)) (rowN g)) (rowN b)

/-- A projection of the nodes' rows with its bias. -/
def proj (u : FVec Ideal S1360x128 .f32) (w : FVec Ideal S128x128 .f32) (b : FVec Ideal S1x128 .f32) :
    FVec Ideal S1360x128 .f32 :=
  addf (matmul dot_S1360x128_S128x128_S1360x128_1_0_0_1_n_n none (truncf .bf16 u bitsLt_bf16_f32)
    (truncf .bf16 w bitsLt_bf16_f32) (constant S1360x128 .f32 0x00000000#32)) (rowN b)

/-- The queries: a projection scaled. -/
def projQ (u : FVec Ideal S1360x128 .f32) (w : FVec Ideal S128x128 .f32) (b : FVec Ideal S1x128 .f32) :
    FVec Ideal S1360x128 .f32 :=
  mulf (proj u w b) (broadcast S1360x128 (Named.named κ "qscale" 0x3E8293EE#32))

/-- The weighted sums of one head's values, the row of ones below them summing the weights. -/
def headSums (q k v : FVec Ideal S1360x32 .f32) : FVec Ideal S33x1360 .f32 :=
  matmul dot_S1360x33_S1360x1360_S33x1360_0_0_1_1_n_n none
    (concatenate S1360x33 1 [⟨S1360x32, truncf .bf16 v bitsLt_bf16_f32⟩,
      ⟨S1360x1, broadcast (α := Ideal .bf16) S1360x1 (Scalar.ofBits .bf16 0x3F80#16)⟩] concatenates_S1360x32_S1360x1_S1360x33_d1)
    (truncf .bf16 (exp2 (matmul dot_S1360x32_S1360x32_S1360x1360_1_1_0_0_n_n none (truncf .bf16 k bitsLt_bf16_f32)
      (truncf .bf16 q bitsLt_bf16_f32) (constant S1360x1360 .f32 0x00000000#32))) bitsLt_bf16_f32)
    (constant S33x1360 .f32 0x00000000#32)

/-- One head's output, transposed: the weighted sums times the reciprocal of the sum of the weights. -/
def head (q k v : FVec Ideal S1360x32 .f32) : FVec Ideal S32x1360 .f32 :=
  mulf (extractStridedSlice S32x1360 ![0, 0] (headSums q k v) slices_S33x1360_o0_0_S32x1360)
    (broadcastTo S32x1360 (divf (broadcast S1x1360 (Scalar.ofBits .f32 0x3F800000#32))
      (extractStridedSlice S1x1360 ![32, 0] (headSums q k v) slices_S33x1360_o32_0_S1x1360)) broadcasts_S1x1360_S32x1360)

/-- The four heads' outputs, stacked (transposed). -/
def heads (q k v : FVec Ideal S1360x128 .f32) : FVec Ideal S128x1360 .f32 :=
  concatenate S128x1360 0
    [⟨S32x1360, head (extractStridedSlice S1360x32 ![0, 0] q slices_S1360x128_o0_0_S1360x32)
        (extractStridedSlice S1360x32 ![0, 0] k slices_S1360x128_o0_0_S1360x32)
        (extractStridedSlice S1360x32 ![0, 0] v slices_S1360x128_o0_0_S1360x32)⟩,
     ⟨S32x1360, head (extractStridedSlice S1360x32 ![0, 32] q slices_S1360x128_o0_32_S1360x32)
        (extractStridedSlice S1360x32 ![0, 32] k slices_S1360x128_o0_32_S1360x32)
        (extractStridedSlice S1360x32 ![0, 32] v slices_S1360x128_o0_32_S1360x32)⟩,
     ⟨S32x1360, head (extractStridedSlice S1360x32 ![0, 64] q slices_S1360x128_o0_64_S1360x32)
        (extractStridedSlice S1360x32 ![0, 64] k slices_S1360x128_o0_64_S1360x32)
        (extractStridedSlice S1360x32 ![0, 64] v slices_S1360x128_o0_64_S1360x32)⟩,
     ⟨S32x1360, head (extractStridedSlice S1360x32 ![0, 96] q slices_S1360x128_o0_96_S1360x32)
        (extractStridedSlice S1360x32 ![0, 96] k slices_S1360x128_o0_96_S1360x32)
        (extractStridedSlice S1360x32 ![0, 96] v slices_S1360x128_o0_96_S1360x32)⟩]
    concatenates_S32x1360_S32x1360_S32x1360_S32x1360_S128x1360_d0

/-- The output projection of the stacked heads. -/
def outN (o : FVec Ideal S128x1360 .f32) (w : FVec Ideal S128x128 .f32) (b : FVec Ideal S1x128 .f32) :
    FVec Ideal S1360x128 .f32 :=
  addf (matmul dot_S128x1360_S128x128_S1360x128_0_0_1_1_n_n none (truncf .bf16 o bitsLt_bf16_f32)
    (truncf .bf16 w bitsLt_bf16_f32) (constant S1360x128 .f32 0x00000000#32)) (rowN b)

/-- The nodes' rows broadcast back to the positions, level by level. -/
def spread (o : FVec Ideal S1360x128 .f32) : FVec Ideal S4096x128 .f32 :=
  shapeCast S4096x128 (concatenate S32x32x4x128 2
    [⟨S32x32x1x128, shapeCast S32x32x1x128 (shapeCast S32x1x32x1x128 (extractStridedSlice S1024x128 ![0, 0] o
        slices_S1360x128_o0_0_S1024x128) shapeCasts_S1024x128_S32x1x32x1x128) shapeCasts_S32x1x32x1x128_S32x32x1x128⟩,
     ⟨S32x32x1x128, shapeCast S32x32x1x128 (broadcastTo S16x2x16x2x128 (shapeCast S16x1x16x1x128 (shapeCast S16x1x16x1x128
        (extractStridedSlice S256x128 ![1024, 0] o slices_S1360x128_o1024_0_S256x128) shapeCasts_S256x128_S16x1x16x1x128)
        shapeCasts_S16x1x16x1x128_S16x1x16x1x128) broadcasts_S16x1x16x1x128_S16x2x16x2x128)
        shapeCasts_S16x2x16x2x128_S32x32x1x128⟩,
     ⟨S32x32x1x128, shapeCast S32x32x1x128 (broadcastTo S8x4x8x4x128 (shapeCast S8x1x8x1x128 (shapeCast S8x1x8x1x128
        (extractStridedSlice S64x128 ![1280, 0] o slices_S1360x128_o1280_0_S64x128) shapeCasts_S64x128_S8x1x8x1x128)
        shapeCasts_S8x1x8x1x128_S8x1x8x1x128) broadcasts_S8x1x8x1x128_S8x4x8x4x128) shapeCasts_S8x4x8x4x128_S32x32x1x128⟩,
     ⟨S32x32x1x128, shapeCast S32x32x1x128 (broadcastTo S4x8x4x8x128 (shapeCast S4x1x4x1x128 (shapeCast S4x1x4x1x128
        (extractStridedSlice S16x128 ![1344, 0] o slices_S1360x128_o1344_0_S16x128) shapeCasts_S16x128_S4x1x4x1x128)
        shapeCasts_S4x1x4x1x128_S4x1x4x1x128) broadcasts_S4x1x4x1x128_S4x8x4x8x128) shapeCasts_S4x8x4x8x128_S32x32x1x128⟩]
    concatenates_S32x32x1x128_S32x32x1x128_S32x32x1x128_S32x32x1x128_S32x32x4x128_d2) shapeCasts_S32x32x4x128_S4096x128

/-- The mean of each position's row. -/
def meanP (x : FVec Ideal S4096x128 .f32) : FVec Ideal S4096x1 .f32 :=
  divf (shapeCast S4096x1 (multiReduction .add [1] S4096 x 0x00000000#32 reduces_S4096x128_S4096 (.inl rfl) rfl)
    shapeCasts_S4096_S4096x1) (broadcast S4096x1 (Scalar.ofBits .f32 0x43000000#32))

/-- Each position's row less its mean. -/
def devP (x : FVec Ideal S4096x128 .f32) : FVec Ideal S4096x128 .f32 :=
  subf x (broadcastTo S4096x128 (meanP x) broadcasts_S4096x1_S4096x128)

/-- The positions' rows normalised, with gain and bias. -/
def lnP (x : FVec Ideal S4096x128 .f32) (g b : FVec Ideal S1x128 .f32) : FVec Ideal S4096x128 .f32 :=
  addf (mulf (mulf (devP x) (broadcastTo S4096x128 (rsqrt (addf (meanP (mulf (devP x) (devP x)))
    (broadcast S4096x1 (Scalar.ofBits .f32 0x3727C5AC#32)))) broadcasts_S4096x1_S4096x128)) (rowP g)) (rowP b)

/-- The scaled pre-activations of the feed-forward layer. -/
def pre (z : FVec Ideal S4096x128 .f32) (w : FVec Ideal S128x512 .f32) (b : FVec Ideal S1x512 .f32) :
    FVec Ideal S4096x512 .f32 :=
  addf (matmul dot_S4096x128_S128x512_S4096x512_1_0_0_1_n_n none (truncf .bf16 z bitsLt_bf16_f32)
    (truncf .bf16 (mulf w (broadcast S128x512 (Named.named κ "rsqrt2" 0x3F3504F3#32))) bitsLt_bf16_f32)
    (constant S4096x512 .f32 0x00000000#32))
    (broadcastTo S4096x512 (shapeCast S1x512 (mulf (shapeCast S512 b shapeCasts_S1x512_S512)
      (broadcast S512 (Named.named κ "rsqrt2" 0x3F3504F3#32))) shapeCasts_S512_S1x512) broadcasts_S1x512_S4096x512)

/-- The feed-forward layer of normalised rows. -/
def ffn (h : FVec Ideal S4096x512 .f32) (w : FVec Ideal S512x128 .f32) (b : FVec Ideal S1x128 .f32) :
    FVec Ideal S4096x128 .f32 :=
  addf (matmul dot_S4096x512_S512x128_S4096x128_1_0_0_1_n_n none
    (truncf .bf16 (mulf h (addf (broadcast S4096x512 (Scalar.ofBits .f32 0x3F800000#32)) (erf h))) bitsLt_bf16_f32)
    (truncf .bf16 (mulf w (broadcast S512x128 (Named.named κ "rsqrt2" 0x3F3504F3#32))) bitsLt_bf16_f32)
    (constant S4096x128 .f32 0x00000000#32)) (rowP b)

/-- The rows after attention: the residual sum. -/
def mid (x : FVec Ideal S4096x128 .f32) (g1 b1 : FVec Ideal S1x128 .f32) (wq : FVec Ideal S128x128 .f32)
    (bq : FVec Ideal S1x128 .f32) (wk : FVec Ideal S128x128 .f32) (bk : FVec Ideal S1x128 .f32)
    (wv : FVec Ideal S128x128 .f32) (bv : FVec Ideal S1x128 .f32) (wo : FVec Ideal S128x128 .f32)
    (bo : FVec Ideal S1x128 .f32) : FVec Ideal S4096x128 .f32 :=
  addf x (spread (outN (heads (projQ (lnN (reps x) g1 b1) wq bq) (proj (lnN (reps x) g1 b1) wk bk)
    (proj (lnN (reps x) g1 b1) wv bv)) wo bo))

/-- The rows after the feed-forward layer: the second residual sum. -/
def fin (y : FVec Ideal S4096x128 .f32) (g2 b2 : FVec Ideal S1x128 .f32) (w1 : FVec Ideal S128x512 .f32)
    (c1 : FVec Ideal S1x512 .f32) (w2 : FVec Ideal S512x128 .f32) (c2 : FVec Ideal S1x128 .f32) :
    FVec Ideal S4096x128 .f32 :=
  addf y (ffn (pre (lnP y g2 b2) w1 c1) w2 c2)

/-- The block function: one batch element's rows after attention and the feed-forward layer. -/
def block (x : FVec Ideal S1x4096x128 .f32) (g1 b1 : FVec Ideal S1x128 .f32) (wq : FVec Ideal S128x128 .f32)
    (bq : FVec Ideal S1x128 .f32) (wk : FVec Ideal S128x128 .f32) (bk : FVec Ideal S1x128 .f32)
    (wv : FVec Ideal S128x128 .f32) (bv : FVec Ideal S1x128 .f32) (wo : FVec Ideal S128x128 .f32)
    (bo : FVec Ideal S1x128 .f32) (g2 b2 : FVec Ideal S1x128 .f32) (w1 : FVec Ideal S128x512 .f32)
    (c1 : FVec Ideal S1x512 .f32) (w2 : FVec Ideal S512x128 .f32) (c2 : FVec Ideal S1x128 .f32) :
    FVec Ideal S1x4096x128 .f32 :=
  shapeCast S1x4096x128 (fin (mid (shapeCast S4096x128 x shapeCasts_S1x4096x128_S4096x128) g1 b1 wq bq wk bk wv bv wo bo)
    g2 b2 w1 c1 w2 c2) shapeCasts_S4096x128_S1x4096x128

end Cert.KernelIdeal.Stages

end
-- ==== Proof.KOut.lean ====
/-
  What one point's body leaves in its output block: for each of its two batch elements, the block function of that
  element's rows.
-/
module

public import proofs.«01_k».proof.Proof.Gen.KernelIdeal.Frame
public import proofs.«01_k».proof.Proof.Stages
public import Idealize.ShloMosaic.Lib.Pipeline.ValueKit
public import Idealize.ShloMosaic.Lib.Pointwise

@[expose] public section

set_option maxRecDepth 16384

noncomputable section

namespace Cert.KernelIdeal.Stages

open Cert.KernelIdeal Cert.KernelIdeal.Gen Idealize.ShloMosaic Idealize.ShloMosaic.TcCoe Idealize.SL.Sem

/-- An entry of the block that one grid step writes is the block function of its batch element's rows and of the
    sixteen parameters. -/
theorem out_at (x0 : FVec Ideal S2x4096x128 .f32) (x1 x2 : FVec Ideal S1x128 .f32) (x3 : FVec Ideal S128x128 .f32)
    (x4 : FVec Ideal S1x128 .f32) (x5 : FVec Ideal S128x128 .f32) (x6 : FVec Ideal S1x128 .f32)
    (x7 : FVec Ideal S128x128 .f32) (x8 : FVec Ideal S1x128 .f32) (x9 : FVec Ideal S128x128 .f32)
    (x10 x11 x12 : FVec Ideal S1x128 .f32) (x13 : FVec Ideal S128x512 .f32) (x14 : FVec Ideal S1x512 .f32)
    (x15 : FVec Ideal S512x128 .f32) (x16 : FVec Ideal S1x128 .f32) (y : S2x4096x128.Idx) :
    out0_17 (F := Ideal) x0 x1 x2 x3 x4 x5 x6 x7 x8 x9 x10 x11 x12 x13 x14 x15 x16 y
      = block (fun i => x0 (ix3 (y 0) (i 1) (i 2))) x1 x2 x3 x4 x5 x6 x7 x8 x9 x10 x11 x12 x13 x14 x15 x16
          (ix3 0 (y 1) (y 2)) := by
  have e1 : ∀ z : FVec Ideal S1x128 .f32, View.ld (Val := Elt Ideal) (e' := .f32) z r0_1 = z :=
    fun z => View.ld_unit_lit (Val := Elt Ideal) (e := .f32) (S := S1x128) (off := ![0, 0]) inb_S1x128_S1x128_0_0 z (by decide)
  have e2 : ∀ z : FVec Ideal S128x128 .f32, View.ld (Val := Elt Ideal) (e' := .f32) z r0_2 = z :=
    fun z => View.ld_unit_lit (Val := Elt Ideal) (e := .f32) (S := S128x128) (off := ![0, 0]) inb_S128x128_S128x128_0_0 z (by decide)
  have e3 : ∀ z : FVec Ideal S128x512 .f32, View.ld (Val := Elt Ideal) (e' := .f32) z r0_3 = z :=
    fun z => View.ld_unit_lit (Val := Elt Ideal) (e := .f32) (S := S128x512) (off := ![0, 0]) inb_S128x512_S128x512_0_0 z (by decide)
  have e4 : ∀ z : FVec Ideal S1x512 .f32, View.ld (Val := Elt Ideal) (e' := .f32) z r0_4 = z :=
    fun z => View.ld_unit_lit (Val := Elt Ideal) (e := .f32) (S := S1x512) (off := ![0, 0]) inb_S1x512_S1x512_0_0 z (by decide)
  have e5 : ∀ z : FVec Ideal S512x128 .f32, View.ld (Val := Elt Ideal) (e' := .f32) z r0_5 = z :=
    fun z => View.ld_unit_lit (Val := Elt Ideal) (e := .f32) (S := S512x128) (off := ![0, 0]) inb_S512x128_S512x128_0_0 z (by decide)
  unfold_out out0_17
  rw [e1, e1, e1, e1, e1, e1, e1, e1, e1, e2, e2, e2, e2, e3, e4, e5]
  canon_tiles x h
  case piece0 =>
    refine Eq.trans (b := block (View.ld (Val := Elt Ideal) (e' := .f32) x0 r0_6) x1 x2 x3 x4 x5 x6 x7 x8 x9 x10 x11 x12 x13 x14
      x15 x16 x) ?_ ?_
    · generalize View.ld (Val := Elt Ideal) (e' := .f32) x0 r0_6 = X
      dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51,
        block, fin, mid, ffn, pre, lnP, devP, meanP, spread, outN, heads, head, headSums, projQ, proj, lnN, devN, meanN,
        rowP, rowN, reps]
    refine congrArg₂ (fun X i => block X x1 x2 x3 x4 x5 x6 x7 x8 x9 x10 x11 x12 x13 x14 x15 x16 i) (funext fun i => ?_) ?_
    · refine View.ld_unit_apply_of (Val := Elt Ideal) (e := .f32) x0 ![1, 0, 0] S1x4096x128.size _ i _ fun a => ?_
      have hi := (i 0).isLt
      fin_cases a <;> simp at hi ⊢ <;> omega
    · funext a
      apply Fin.ext
      fin_cases a <;> simp <;> omega
  case piece1 =>
    refine Eq.trans (b := block (View.ld (Val := Elt Ideal) (e' := .f32) x0 r0_0) x1 x2 x3 x4 x5 x6 x7 x8 x9 x10 x11 x12 x13 x14
      x15 x16 x) ?_ ?_
    · generalize View.ld (Val := Elt Ideal) (e' := .f32) x0 r0_0 = X
      dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51,
        block, fin, mid, ffn, pre, lnP, devP, meanP, spread, outN, heads, head, headSums, projQ, proj, lnN, devN, meanN,
        rowP, rowN, reps]
    refine congrArg₂ (fun X i => block X x1 x2 x3 x4 x5 x6 x7 x8 x9 x10 x11 x12 x13 x14 x15 x16 i) (funext fun i => ?_) ?_
    · refine View.ld_unit_apply_of (Val := Elt Ideal) (e := .f32) x0 ![0, 0, 0] S1x4096x128.size _ i _ fun a => ?_
      have hi := (i 0).isLt
      fin_cases a <;> simp at hi ⊢ <;> omega
    · funext a
      apply Fin.ext
      fin_cases a <;> simp <;> omega

end Cert.KernelIdeal.Stages

end
-- ==== Proof.Alg.lean ====
/-
  Arithmetic on the extended reals that the comparison needs: multiplication by a positive real over a sum, real sums
  as coerced sums, the constants, layer normalisation by `rsqrt` against the quotient by a square root, and the GELU
  written with `erf` against the one written with `erfc`.
-/
module

public import Idealize.ShloMosaic.Lib.IdealHost
public import Idealize.ShloMosaic.PureOps.Ideal.Laws

@[expose] public section

set_option maxRecDepth 16384

noncomputable section

namespace Cert.Alg

open Idealize.ShloMosaic

/-! ## Sums -/

/-- Multiplication by a non-negative real goes into a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum with an infinite term is infinite. -/
theorem sum_infinite {ι : Type} (s : Finset ι) (f : ι → EReal) {i : ι} (hi : i ∈ s) (h : f i = ⊤ ∨ f i = ⊥) :
    (∑ i ∈ s, f i) = ⊤ ∨ (∑ i ∈ s, f i) = ⊥ := by
  classical
  rw [← Finset.add_sum_erase s f hi]
  generalize ∑ x ∈ s.erase i, f x = y
  rcases h with h | h <;> rw [h]
  · induction y <;> simp
  · simp

/-- An extended real that is neither infinity is a real. -/
theorem exists_real {x : EReal} (h : ¬ (x = ⊤ ∨ x = ⊥)) : ∃ r : ℝ, x = (r : EReal) := by
  induction x with
  | bot => simp at h
  | top => simp at h
  | coe r => exact ⟨r, rfl⟩

/-! ## Constants -/

/-- The row length, 128, as the programs write it. -/
def cN : EReal := Ideal.ofBits .f32 0x43000000#32
/-- The normalisation's epsilon as the programs write it. -/
def cEps : EReal := Ideal.ofBits .f32 0x3727C5AC#32

/-- The row length's word is the real 128. -/
theorem cN_eq : cN = ((128 : ℝ) : EReal) := by
  unfold cN
  simp [Ideal.ofBits, Ideal.ieee, -EReal.coe_mul]; norm_num

/-- The epsilon is a positive real. -/
theorem cEps_pos : ∃ e : ℝ, 0 < e ∧ cEps = (e : EReal) := by
  refine ⟨(1 * (2 ^ 23 + 2606508 : Nat) * (2 : ℝ) ^ ((110 : Int) - 127 - 23)), by positivity, ?_⟩
  unfold cEps
  simp [Ideal.ofBits, Ideal.ieee, -EReal.coe_mul]

/-! ## Layer normalisation -/

/-- The mean of a row. -/
def mean (row : Fin 128 → EReal) : EReal := Ideal.div (∑ k, row k) cN
/-- The (biased) variance of a row. -/
def var (row : Fin 128 → EReal) : EReal := Ideal.div (∑ k, (row k - mean row) * (row k - mean row)) cN
/-- The row normalised by the reciprocal square root. -/
def lnK (row : Fin 128 → EReal) (j : Fin 128) : EReal := (row j - mean row) * Ideal.rsqrt (var row + cEps)
/-- The row normalised by the quotient by the square root. -/
def lnR (row : Fin 128 → EReal) (j : Fin 128) : EReal := Ideal.div (row j - mean row) (Ideal.sqrt (var row + cEps))

/-- Division by the row length is multiplication by 1/128, at infinities too. -/
theorem div_cN (x : EReal) : Ideal.div x cN = x * ((1 / 128 : ℝ) : EReal) := by
  rw [cN_eq, Ideal.div_coe (by norm_num)]

/-- The variance of a row is `⊤` with every deviation infinite, or a non-negative real with every deviation real. -/
theorem row_cases (row : Fin 128 → EReal) :
    (var row = ⊤) ∨
      (∃ d : Fin 128 → ℝ, (∀ k, row k - mean row = (d k : EReal)) ∧ ∃ v : ℝ, 0 ≤ v ∧ var row = (v : EReal)) := by
  by_cases h : ∃ i, row i = ⊤ ∨ row i = ⊥
  · left
    obtain ⟨i, hi⟩ := h
    have hm : mean row = ⊤ ∨ mean row = ⊥ := by
      unfold mean
      rw [div_cN]
      rcases sum_infinite Finset.univ row (Finset.mem_univ i) hi with h | h <;> rw [h]
      · exact Or.inl (EReal.top_mul_coe_of_pos (by norm_num))
      · exact Or.inr (EReal.bot_mul_coe_of_pos (by norm_num))
    have hd : ∀ k, (row k - mean row) * (row k - mean row) = ⊤ := by
      intro k
      have : row k - mean row = ⊤ ∨ row k - mean row = ⊥ := by
        rcases hm with hm | hm <;> rw [hm]
        · right; simp [sub_eq_add_neg]
        · rcases eq_or_ne (row k) ⊥ with hk | hk
          · right; rw [hk]; rfl
          · left; rw [sub_eq_add_neg, EReal.neg_bot]; exact EReal.add_top_of_ne_bot hk
      rcases this with h | h <;> rw [h] <;> rfl
    unfold var
    rw [div_cN, Finset.sum_congr rfl fun k _ => hd k]
    have : (∑ _k : Fin 128, (⊤ : EReal)) = ⊤ := by
      rw [Fin.sum_univ_succ]
      refine EReal.top_add_of_ne_bot ?_
      refine fun hb => absurd (hb ▸ Finset.sum_nonneg fun _ _ => (le_top : (0 : EReal) ≤ ⊤)) (by simp)
    rw [this]
    exact EReal.top_mul_coe_of_pos (by norm_num)
  · right
    have hr : ∀ k, ∃ r : ℝ, row k = (r : EReal) := fun k => exists_real fun hk => h ⟨k, hk⟩
    choose r hr using hr
    have hm : mean row = (((∑ k, r k) * (1 / 128) : ℝ) : EReal) := by
      unfold mean
      rw [div_cN, EReal.coe_mul, coe_sum]
      simp only [hr]
    have hd : ∀ k, row k - mean row = ((r k - (∑ k, r k) * (1 / 128) : ℝ) : EReal) := by
      intro k
      rw [hm, hr k, ← EReal.coe_sub]
    refine ⟨_, hd, (∑ k, (r k - (∑ k, r k) * (1 / 128)) * (r k - (∑ k, r k) * (1 / 128))) * (1 / 128), ?_, ?_⟩
    · exact mul_nonneg (Finset.sum_nonneg fun k _ => mul_self_nonneg _) (by norm_num)
    · unfold var
      rw [div_cN, EReal.coe_mul, coe_sum]
      simp only [hd, EReal.coe_mul]

/-- Dividing by the square root is multiplying by the reciprocal square root: the variance is not negative and the
    epsilon is positive. -/
theorem lnR_eq (row : Fin 128 → EReal) (j : Fin 128) : lnR row j = lnK row j := by
  obtain ⟨e, he, hE⟩ := cEps_pos
  unfold lnR lnK
  rw [hE]
  rcases row_cases row with hv | ⟨d, hd, v, hv0, hv⟩
  · rw [hv, EReal.top_add_coe, Ideal.sqrt_top, Ideal.rsqrt_top, Ideal.div, if_neg (by simp)]
    simp
  · have hp : 0 < v + e := by linarith
    rw [hv, ← EReal.coe_add, Ideal.sqrt_coe, Ideal.rsqrt_coe, if_neg (by linarith), if_neg (by linarith),
      if_neg (by linarith), Ideal.div_coe (Real.sqrt_pos.2 hp).ne', one_div]

/-- A normalised row is real, whatever the row holds. -/
theorem lnK_real (row : Fin 128 → EReal) : ∃ r : Fin 128 → ℝ, ∀ j, lnK row j = (r j : EReal) := by
  obtain ⟨e, he, hE⟩ := cEps_pos
  unfold lnK
  rw [hE]
  rcases row_cases row with hv | ⟨d, hd, v, hv0, hv⟩
  · refine ⟨fun _ => 0, fun j => ?_⟩
    rw [hv, EReal.top_add_coe, Ideal.rsqrt_top]
    simp
  · have hp : 0 < v + e := by linarith
    refine ⟨fun j => d j * (Real.sqrt (v + e))⁻¹, fun j => ?_⟩
    rw [hv, ← EReal.coe_add, Ideal.rsqrt_coe, if_neg (by linarith), if_neg (by linarith), hd, EReal.coe_mul]

/-! ## The feed-forward layer -/

/-- The reciprocal square root of two, the value of the named constant. -/
def rs2 : ℝ := (Real.sqrt 2)⁻¹

/-- The reciprocal square root of two is not negative. -/
theorem rs2_nonneg : 0 ≤ rs2 := inv_nonneg.2 (Real.sqrt_nonneg 2)

/-- Its square is one half. -/
theorem rs2_mul_self : rs2 * rs2 = 1 / 2 := by
  unfold rs2
  rw [← mul_inv, Real.mul_self_sqrt (by norm_num)]; norm_num

/-- The word of 0.5 is the real one half. -/
theorem cHalf_eq : Ideal.ofBits .f32 0x3F000000#32 = ((1 / 2 : ℝ) : EReal) := by
  simp [Ideal.ofBits, Ideal.ieee, -EReal.coe_mul]; norm_num

/-- The scaled pre-activation: the constant goes through the contraction and the bias. -/
theorem preact (z : Fin 128 → EReal) (w : Fin 128 → EReal) (b : EReal) :
    (∑ k, z k * (w k * (rs2 : EReal))) + b * (rs2 : EReal) = (∑ k, z k * w k + b) * (rs2 : EReal) := by
  rw [EReal.right_distrib_of_nonneg_of_ne_top (by exact_mod_cast rs2_nonneg) (EReal.coe_ne_top _),
    sum_mul_real _ _ _ rs2_nonneg]
  simp only [mul_assoc]

/-- One term of the second contraction: the GELU of the scaled pre-activation by `erf`, against the exact GELU by
    `erfc` of the negated one. -/
theorem gelu_term (a w : EReal) :
    (a * (rs2 : EReal)) * (1 + Ideal.erf (a * (rs2 : EReal))) * (w * (rs2 : EReal))
      = Ideal.ofBits .f32 0x3F000000#32 * a * Ideal.erfc (-a * (rs2 : EReal)) * w := by
  rw [EReal.neg_mul, Ideal.erfc_neg, cHalf_eq, ← rs2_mul_self, EReal.coe_mul]
  ac_rfl

end Cert.Alg

end
-- ==== Proof.Index.lean ====
/-
  The grid's index maps: which position's row stands for a node, and which node a position belongs to.
-/
module

public import Idealize.ShloMosaic.Lib.Pipeline.ValueKit

@[expose] public section

namespace Cert.Index

/-- The position whose row stands for node `n`. -/
def rep (n : Fin 1360) : Fin 4096 :=
  ⟨if n.val < 1024 then n.val / 32 * 128 + n.val % 32 * 4
    else if n.val < 1280 then (n.val - 1024) / 16 * 256 + (n.val - 1024) % 16 * 8 + 1
    else if n.val < 1344 then (n.val - 1280) / 8 * 512 + (n.val - 1280) % 8 * 16 + 2
    else (n.val - 1344) / 4 * 1024 + (n.val - 1344) % 4 * 32 + 3, by have := n.isLt; split_ifs <;> omega⟩

/-- The node position `p` belongs to. -/
def node (p : Fin 4096) : Fin 1360 :=
  ⟨if p.val % 4 < 1 then p.val / 128 * 32 + p.val / 4 % 32
    else if p.val % 4 < 2 then 1024 + p.val / 256 * 16 + p.val / 8 % 16
    else if p.val % 4 < 3 then 1280 + p.val / 512 * 8 + p.val / 16 % 8
    else 1344 + p.val / 1024 * 4 + p.val / 32 % 4, by have := p.isLt; split_ifs <;> omega⟩

end Cert.Index

end
-- ==== Proof.Read.lean ====
/-
  The kernel's stages read at an index.
-/
module

public import proofs.«01_k».proof.Proof.Stages
public import proofs.«01_k».proof.Proof.Alg
public import proofs.«01_k».proof.Proof.Index
public import Idealize.ShloMosaic.Lib.Pipeline.ValueKit
public import Idealize.ShloMosaic.Lib.Pointwise

@[expose] public section

set_option maxRecDepth 16384

noncomputable section

namespace Cert.KernelIdeal.Stages

open Cert.KernelIdeal Cert.KernelIdeal.Gen Cert.Index Idealize.ShloMosaic Idealize.ShloMosaic.TcCoe Idealize.SL.Sem

/-- A node's representative row. -/
theorem reps_at (x : FVec Ideal S4096x128 .f32) (n : Fin 1360) (j : Fin 128) :
    reps x (ix2 n j) = x (ix2 (rep n) j) := by
  pointwise [reps, rep]
  split_ifs <;> first | omega | exact congrArg (fun a => x (ix2 a j)) (Fin.ext (by first | rfl | (dsimp only; (try split_ifs) <;> omega)))

/-- The row spread to a position is its node's. -/
theorem spread_at (o : FVec Ideal S1360x128 .f32) (p : Fin 4096) (j : Fin 128) :
    spread o (ix2 p j) = o (ix2 (node p) j) := by
  pointwise [spread, node]
  split_ifs <;> first | omega | exact congrArg (fun a => o (ix2 a j)) (Fin.ext (by first | rfl | (dsimp only; (try split_ifs) <;> omega)))

/-- The nodes' normalisation at an entry. -/
theorem lnN_at (x : FVec Ideal S1360x128 .f32) (g b : FVec Ideal S1x128 .f32) (n : Fin 1360) (j : Fin 128) :
    lnN x g b (ix2 n j) = Cert.Alg.lnK (fun i => x (ix2 n i)) j * g (ix2 0 j) + b (ix2 0 j) := by
  pointwise [lnN, rowN, devN, meanN]
  rfl

/-- A projection at an entry. -/
theorem proj_at (u : FVec Ideal S1360x128 .f32) (w : FVec Ideal S128x128 .f32) (b : FVec Ideal S1x128 .f32)
    (n : Fin 1360) (j : Fin 128) :
    proj u w b (ix2 n j) = ∑ k : Fin 128, u (ix2 n k) * w (ix2 k j) + b (ix2 0 j) := by
  pointwise [proj, rowN]

/-- A query at an entry. -/
theorem projQ_at (u : FVec Ideal S1360x128 .f32) (w : FVec Ideal S128x128 .f32) (b : FVec Ideal S1x128 .f32)
    (n : Fin 1360) (j : Fin 128) :
    projQ u w b (ix2 n j) = (∑ k : Fin 128, u (ix2 n k) * w (ix2 k j) + b (ix2 0 j))
      * Named.named (F := Ideal) κ "qscale" 0x3E8293EE#32 := by
  pointwise [projQ, proj, rowN]

/-- One head's output at an entry. -/
theorem head_at (q k v : FVec Ideal S1360x32 .f32) (d : Fin 32) (n : Fin 1360) :
    head q k v (ix2 d n)
      = (∑ m : Fin 1360, v (ix2 m d) * Ideal.exp2 (∑ e : Fin 32, k (ix2 m e) * q (ix2 n e)))
        * Ideal.div 1 (∑ m : Fin 1360, Ideal.exp2 (∑ e : Fin 32, k (ix2 m e) * q (ix2 n e))) := by
  pointwise [head, headSums]
  rfl

/-- The output projection at an entry. -/
theorem outN_at (o : FVec Ideal S128x1360 .f32) (w : FVec Ideal S128x128 .f32) (b : FVec Ideal S1x128 .f32)
    (n : Fin 1360) (j : Fin 128) :
    outN o w b (ix2 n j) = ∑ c : Fin 128, o (ix2 c n) * w (ix2 c j) + b (ix2 0 j) := by
  pointwise [outN, rowN]

/-- The positions' normalisation at an entry. -/
theorem lnP_at (x : FVec Ideal S4096x128 .f32) (g b : FVec Ideal S1x128 .f32) (n : Fin 4096) (j : Fin 128) :
    lnP x g b (ix2 n j) = Cert.Alg.lnK (fun i => x (ix2 n i)) j * g (ix2 0 j) + b (ix2 0 j) := by
  pointwise [lnP, rowP, devP, meanP]
  rfl

/-- A scaled pre-activation. -/
theorem pre_at (z : FVec Ideal S4096x128 .f32) (w : FVec Ideal S128x512 .f32) (b : FVec Ideal S1x512 .f32)
    (p : Fin 4096) (f : Fin 512) :
    pre z w b (ix2 p f) = ∑ k : Fin 128, z (ix2 p k) * (w (ix2 k f) * Named.named (F := Ideal) κ "rsqrt2" 0x3F3504F3#32)
      + b (ix2 0 f) * Named.named (F := Ideal) κ "rsqrt2" 0x3F3504F3#32 := by
  pointwise [pre]

/-- The feed-forward layer at an entry. -/
theorem ffn_at (h : FVec Ideal S4096x512 .f32) (w : FVec Ideal S512x128 .f32) (b : FVec Ideal S1x128 .f32)
    (p : Fin 4096) (j : Fin 128) :
    ffn h w b (ix2 p j) = ∑ f : Fin 512, h (ix2 p f) * (1 + Ideal.erf (h (ix2 p f)))
      * (w (ix2 f j) * Named.named (F := Ideal) κ "rsqrt2" 0x3F3504F3#32) + b (ix2 0 j) := by
  pointwise [ffn, rowP]
  rfl

/-- The stacked heads at an entry: row `c` belongs to head `c / 32`. -/
theorem heads_at (q k v : FVec Ideal S1360x128 .f32) (c : Fin 128) (n : Fin 1360) :
    heads q k v (ix2 c n)
      = (∑ m : Fin 1360, v (ix2 m c) * Ideal.exp2 (∑ e : Fin 32, k (ix2 m ⟨c.val / 32 * 32 + e.val, by omega⟩)
          * q (ix2 n ⟨c.val / 32 * 32 + e.val, by omega⟩)))
        * Ideal.div 1 (∑ m : Fin 1360, Ideal.exp2 (∑ e : Fin 32, k (ix2 m ⟨c.val / 32 * 32 + e.val, by omega⟩)
          * q (ix2 n ⟨c.val / 32 * 32 + e.val, by omega⟩))) := by
  pointwise [heads]
  by_cases h0 : c.val < 32
  · rw [dif_pos h0]
    have hc : c.val / 32 = 0 := by omega
    refine (head_at _ _ _ _ _).trans ?_
    pointwise
    simp only [hc, zero_mul, zero_add]
  rw [dif_neg h0]
  by_cases h1 : c.val - 32 < 32
  · rw [dif_pos h1]
    have hc : c.val / 32 = 1 := by omega
    have e : (⟨32 + (c.val - 32), by omega⟩ : Fin 128) = c := Fin.ext (by dsimp only; omega)
    refine (head_at _ _ _ _ _).trans ?_
    pointwise
    simp only [hc, one_mul, e]
  rw [dif_neg h1]
  by_cases h2 : c.val - 32 - 32 < 32
  · rw [dif_pos h2]
    have hc : c.val / 32 = 2 := by omega
    have e : (⟨64 + (c.val - 32 - 32), by omega⟩ : Fin 128) = c := Fin.ext (by dsimp only; omega)
    refine (head_at _ _ _ _ _).trans ?_
    pointwise
    simp only [hc, Nat.reduceMul, e]
  rw [dif_neg h2]
  have hc : c.val / 32 = 3 := by omega
  have e : (⟨96 + (c.val - 32 - 32 - 32), by omega⟩ : Fin 128) = c := Fin.ext (by dsimp only; omega)
  refine (head_at _ _ _ _ _).trans ?_
  pointwise
  simp only [hc, Nat.reduceMul, e]

end Cert.KernelIdeal.Stages

end
-- ==== Proof.Attn.lean ====
/-
  The attention of one query: weights by powers of two of scaled scores with one division at the end, against the
  softmax that subtracts the row's maximum and divides every weight.
-/
module

public import proofs.«01_k».proof.Proof.Alg

@[expose] public section

set_option maxRecDepth 16384

noncomputable section

namespace Cert.Alg

open Idealize.ShloMosaic

/-- The query scale's value, `1 / (log 2 · √32)`. -/
def qs : ℝ := (Real.log 2)⁻¹ * (Real.sqrt 32)⁻¹

/-- A power of two of a score in base-two units is the exponential of the score. -/
theorem exp2_real (s : ℝ) : Ideal.exp2 ((s * (Real.log 2)⁻¹ : ℝ) : EReal) = ((Real.exp s : ℝ) : EReal) := by
  rw [Ideal.exp2_coe]
  congr 1
  show (2 : ℝ) ^ (s * (Real.log 2)⁻¹) = Real.exp s
  rw [Real.rpow_def_of_pos (by norm_num)]
  congr 1
  have : Real.log 2 ≠ 0 := (Real.log_pos (by norm_num)).ne'
  field_simp

/-- The kernel's score: real queries scaled first, then contracted with the keys. -/
theorem score_kernel {n : Nat} (q k : Fin n → ℝ) :
    Ideal.exp2 (∑ e, (k e : EReal) * ((q e : EReal) * (qs : EReal)))
      = ((Real.exp ((∑ e, q e * k e) * (1 / Real.sqrt 32)) : ℝ) : EReal) := by
  have h : (∑ e, (k e : EReal) * ((q e : EReal) * (qs : EReal)))
      = ((((∑ e, q e * k e) * (1 / Real.sqrt 32)) * (Real.log 2)⁻¹ : ℝ) : EReal) := by
    rw [show ((∑ e, q e * k e) * (1 / Real.sqrt 32)) * (Real.log 2)⁻¹ = ∑ e, k e * (q e * qs) by
      rw [Finset.sum_mul, Finset.sum_mul]
      refine Finset.sum_congr rfl fun e _ => ?_
      unfold qs; ring, coe_sum]
    simp only [EReal.coe_mul]
  rw [h, exp2_real]

/-- The reference's score: contracted, then divided by `√32`. -/
theorem score_ref {n : Nat} (q k : Fin n → ℝ) :
    Ideal.div (∑ e, (q e : EReal) * (k e : EReal)) ((Real.sqrt 32 : ℝ) : EReal)
      = (((∑ e, q e * k e) * (1 / Real.sqrt 32) : ℝ) : EReal) := by
  rw [Ideal.div_coe (by positivity), EReal.coe_mul, coe_sum]
  simp only [EReal.coe_mul]

/-- The maximum of finitely many reals, taken from `⊥`, is real unless there are none. -/
theorem fold_max_real {ι : Type} (t : Finset ι) (f : ι → ℝ) :
    (t.fold max (⊥ : EReal) fun i => (f i : EReal)) = ⊥ ∧ t = ∅ ∨
      ∃ M : ℝ, (t.fold max (⊥ : EReal) fun i => (f i : EReal)) = (M : EReal) := by
  classical
  induction t using Finset.induction_on with
  | empty => left; simp
  | insert a t ha ih =>
    right
    rw [Finset.fold_insert ha]
    rcases ih with ⟨h, -⟩ | ⟨M, h⟩ <;> rw [h]
    · exact ⟨f a, max_eq_left bot_le⟩
    · exact ⟨max (f a) M, (EReal.coe_strictMono.monotone.map_max (a := f a) (b := M)).symm⟩

/-- The maximum of a non-empty row of reals, taken from minus infinity, is a real. -/
theorem fold_max_fin {n : Nat} (hn : 0 < n) (f : Fin n → ℝ) :
    ∃ M : ℝ, (Finset.univ.fold max (⊥ : EReal) fun i => (f i : EReal)) = (M : EReal) := by
  rcases fold_max_real Finset.univ f with ⟨-, h⟩ | h
  · exact absurd (h ▸ Finset.mem_univ (⟨0, hn⟩ : Fin n)) (Finset.notMem_empty _)
  · exact h

/-- The attention of one query over any values: unnormalised weights divided once, against normalised weights. -/
theorem attn {n : Nat} (hn : 0 < n) (s : Fin n → ℝ) (M : ℝ) (v : Fin n → EReal) :
    (∑ m, v m * ((Real.exp (s m) : ℝ) : EReal)) * Ideal.div 1 (∑ m, ((Real.exp (s m) : ℝ) : EReal))
      = ∑ m, Ideal.div (Ideal.exp ((s m : EReal) - (M : EReal))) (∑ l, Ideal.exp ((s l : EReal) - (M : EReal))) * v m := by
  haveI : Nonempty (Fin n) := ⟨⟨0, hn⟩⟩
  have hpos : ∀ c : ℝ, 0 < ∑ m, Real.exp (s m - c) := fun c =>
    Finset.sum_pos (fun m _ => Real.exp_pos _) Finset.univ_nonempty
  have h0 : 0 < ∑ m, Real.exp (s m) := by simpa using hpos 0
  simp only [← EReal.coe_sub, Ideal.exp_coe]
  rw [← coe_sum, ← coe_sum, Ideal.div_coe h0.ne', one_mul, sum_mul_real _ _ _ (one_div_pos.2 h0).le]
  refine Finset.sum_congr rfl fun m _ => ?_
  rw [Ideal.div_coe (hpos M).ne', mul_comm (_ * _) (v m), mul_assoc, ← EReal.coe_mul, ← EReal.coe_mul]
  congr 2
  have : ∑ l, Real.exp (s l - M) = (∑ l, Real.exp (s l)) * Real.exp (-M) := by
    rw [Finset.sum_mul]
    exact Finset.sum_congr rfl fun l _ => by rw [← Real.exp_add, sub_eq_add_neg]
  rw [this, sub_eq_add_neg, Real.exp_add]
  have := Real.exp_pos (-M)
  field_simp

end Cert.Alg

end
-- ==== Proof.Spec.lean ====
/-
  One batch element's result written twice over the extended reals, as the kernel computes it and as the reference does,
  and the equation of the two when the parameters of the scores are real.
-/
module

public import proofs.«01_k».proof.Proof.Attn
public import proofs.«01_k».proof.Proof.Index

@[expose] public section

noncomputable section

namespace Cert.Spec

open Idealize.ShloMosaic Cert.Alg Cert.Index

/-- One batch element's rows and the block's parameters. -/
structure Params where
  x : Fin 4096 → Fin 128 → EReal
  g1 : Fin 128 → EReal
  b1 : Fin 128 → EReal
  wq : Fin 128 → Fin 128 → EReal
  bq : Fin 128 → EReal
  wk : Fin 128 → Fin 128 → EReal
  bk : Fin 128 → EReal
  wv : Fin 128 → Fin 128 → EReal
  bv : Fin 128 → EReal
  wo : Fin 128 → Fin 128 → EReal
  bo : Fin 128 → EReal
  g2 : Fin 128 → EReal
  b2 : Fin 128 → EReal
  w1 : Fin 128 → Fin 512 → EReal
  c1 : Fin 512 → EReal
  w2 : Fin 512 → Fin 128 → EReal
  c2 : Fin 128 → EReal

/-- A projection with its bias. -/
def pr (u : Fin 1360 → Fin 128 → EReal) (w : Fin 128 → Fin 128 → EReal) (b : Fin 128 → EReal) (n : Fin 1360)
    (c : Fin 128) : EReal :=
  ∑ k : Fin 128, u n k * w k c + b c

/-- The column of head `a` at place `e`. -/
def col (a : Fin 4) (e : Fin 32) : Fin 128 := ⟨a.val * 32 + e.val, by omega⟩
/-- The head of a column. -/
def hd (c : Fin 128) : Fin 4 := ⟨c.val / 32, by omega⟩

variable (P : Params)

/-- The node rows after the first normalisation. -/
def u (n : Fin 1360) (k : Fin 128) : EReal := lnK (P.x (rep n)) k * P.g1 k + P.b1 k
/-- The node rows after the first normalisation, by the quotient. -/
def uR (n : Fin 1360) (k : Fin 128) : EReal := lnR (P.x (rep n)) k * P.g1 k + P.b1 k

/-- The kernel's weight of node `m` for node `n` in the head of column `c`, a power of two. -/
def wt (c : Fin 128) (n m : Fin 1360) : EReal :=
  Ideal.exp2 (∑ e : Fin 32, pr (u P) P.wk P.bk m (col (hd c) e) * (pr (u P) P.wq P.bq n (col (hd c) e) * (qs : EReal)))
/-- The kernel's head output. -/
def headK (c : Fin 128) (n : Fin 1360) : EReal :=
  (∑ m : Fin 1360, pr (u P) P.wv P.bv m c * wt P c n m) * Ideal.div 1 (∑ m : Fin 1360, wt P c n m)
/-- The kernel's rows after attention. -/
def midK (p : Fin 4096) (j : Fin 128) : EReal :=
  P.x p j + (∑ c : Fin 128, headK P c (node p) * P.wo c j + P.bo j)
/-- The kernel's rows after the second normalisation. -/
def zK (p : Fin 4096) (k : Fin 128) : EReal := lnK (midK P p) k * P.g2 k + P.b2 k
/-- The kernel's scaled pre-activations. -/
def hK (p : Fin 4096) (f : Fin 512) : EReal :=
  ∑ k : Fin 128, zK P p k * (P.w1 k f * (rs2 : EReal)) + P.c1 f * (rs2 : EReal)
/-- The kernel's result. -/
def finK (p : Fin 4096) (j : Fin 128) : EReal :=
  midK P p j + (∑ f : Fin 512, hK P p f * (1 + Ideal.erf (hK P p f)) * (P.w2 f j * (rs2 : EReal)) + P.c2 j)

/-- The reference's score. -/
def sc (a : Fin 4) (n m : Fin 1360) : EReal :=
  Ideal.div (∑ e : Fin 32, pr (uR P) P.wq P.bq n (col a e) * pr (uR P) P.wk P.bk m (col a e))
    (Ideal.sqrt (Ideal.ofBits .f32 0x42000000#32))
/-- The reference's head output, its weights shifted by `M`. -/
def headR (M : Fin 4 → Fin 1360 → EReal) (c : Fin 128) (n : Fin 1360) : EReal :=
  ∑ m : Fin 1360, Ideal.div (Ideal.exp (sc P (hd c) n m - M (hd c) n))
    (∑ l : Fin 1360, Ideal.exp (sc P (hd c) n l - M (hd c) n)) * pr (uR P) P.wv P.bv m c
/-- The reference's rows after attention. -/
def midR (M : Fin 4 → Fin 1360 → EReal) (p : Fin 4096) (j : Fin 128) : EReal :=
  P.x p j + (∑ c : Fin 128, headR P M c (node p) * P.wo c j + P.bo j)
/-- The reference's second normalisation. -/
def zR (M : Fin 4 → Fin 1360 → EReal) (p : Fin 4096) (k : Fin 128) : EReal := lnR (midR P M p) k * P.g2 k + P.b2 k
/-- The reference's pre-activations. -/
def aR (M : Fin 4 → Fin 1360 → EReal) (p : Fin 4096) (f : Fin 512) : EReal :=
  ∑ k : Fin 128, zR P M p k * P.w1 k f + P.c1 f
/-- The reference's result. -/
def finR (M : Fin 4 → Fin 1360 → EReal) (p : Fin 4096) (j : Fin 128) : EReal :=
  midR P M p j + (∑ f : Fin 512, Ideal.ofBits .f32 0x3F000000#32 * aR P M p f
    * Ideal.erfc (-aR P M p f * Ideal.sqrt (Ideal.ofBits .f32 0x3F000000#32)) * P.w2 f j + P.c2 j)

/-- The reference's root of 32 is the real one. -/
theorem sqrt32 : Ideal.sqrt (Ideal.ofBits .f32 0x42000000#32) = ((Real.sqrt 32 : ℝ) : EReal) := by
  have h : Ideal.ofBits .f32 0x42000000#32 = ((32 : ℝ) : EReal) := by
    simp [Ideal.ofBits, Ideal.ieee, -EReal.coe_mul]; norm_num
  rw [h, Ideal.sqrt_coe, if_neg (by norm_num)]

/-- The reference's root of a half is the kernel's named constant. -/
theorem sqrt_half : Ideal.sqrt (Ideal.ofBits .f32 0x3F000000#32) = (rs2 : EReal) := by
  rw [cHalf_eq, Ideal.sqrt_coe, if_neg (by norm_num)]
  unfold rs2
  rw [one_div, Real.sqrt_inv]

/-- The two normalisations of the node rows are one. -/
theorem uR_eq : uR P = u P := by
  funext n k
  unfold uR u
  rw [lnR_eq]

/-- The parameters of the scores are real. -/
structure ScoresReal : Prop where
  g1 : ∀ k, ∃ r : ℝ, P.g1 k = (r : EReal)
  b1 : ∀ k, ∃ r : ℝ, P.b1 k = (r : EReal)
  wq : ∀ k c, ∃ r : ℝ, P.wq k c = (r : EReal)
  bq : ∀ c, ∃ r : ℝ, P.bq c = (r : EReal)
  wk : ∀ k c, ∃ r : ℝ, P.wk k c = (r : EReal)
  bk : ∀ c, ∃ r : ℝ, P.bk c = (r : EReal)

variable {P}

/-- Under real gains and biases the node rows are real. -/
theorem u_real (h : ScoresReal P) (n : Fin 1360) (k : Fin 128) : ∃ r : ℝ, u P n k = (r : EReal) := by
  obtain ⟨r, hr⟩ := lnK_real (P.x (rep n))
  obtain ⟨g, hg⟩ := h.g1 k
  obtain ⟨b, hb⟩ := h.b1 k
  exact ⟨r k * g + b, by unfold u; rw [hr, hg, hb]; norm_cast⟩

/-- A projection of real rows with real weights and biases is real. -/
theorem pr_real (v : Fin 1360 → Fin 128 → EReal) (hv : ∀ n k, ∃ r : ℝ, v n k = (r : EReal))
    (w : Fin 128 → Fin 128 → EReal) (hw : ∀ k c, ∃ r : ℝ, w k c = (r : EReal)) (b : Fin 128 → EReal)
    (hb : ∀ c, ∃ r : ℝ, b c = (r : EReal)) : ∃ f : Fin 1360 → Fin 128 → ℝ, ∀ n c, pr v w b n c = (f n c : EReal) := by
  choose v' hv using hv
  choose w' hw using hw
  choose b' hb using hb
  refine ⟨fun n c => ∑ k, v' n k * w' k c + b' c, fun n c => ?_⟩
  unfold pr
  rw [EReal.coe_add, coe_sum, hb]
  simp only [hv, hw, EReal.coe_mul]

/-- The queries and the keys are real. -/
theorem qk_real (h : ScoresReal P) : ∃ q k : Fin 1360 → Fin 128 → ℝ,
    (∀ n c, pr (u P) P.wq P.bq n c = (q n c : EReal)) ∧ ∀ n c, pr (u P) P.wk P.bk n c = (k n c : EReal) := by
  obtain ⟨q, hq⟩ := pr_real _ (u_real h) _ h.wq _ h.bq
  obtain ⟨k, hk⟩ := pr_real _ (u_real h) _ h.wk _ h.bk
  exact ⟨q, k, hq, hk⟩

/-- The scores are real. -/
theorem sc_real (h : ScoresReal P) (a : Fin 4) (n m : Fin 1360) : ∃ r : ℝ, sc P a n m = (r : EReal) := by
  obtain ⟨q, k, hq, hk⟩ := qk_real h
  refine ⟨(∑ e : Fin 32, q n (col a e) * k m (col a e)) * (1 / Real.sqrt 32), ?_⟩
  unfold sc
  rw [uR_eq, sqrt32]
  simp only [hq, hk]
  exact score_ref _ _

/-- The heads' outputs agree, whatever real shift the reference takes. -/
theorem head_eq (h : ScoresReal P) (M : Fin 4 → Fin 1360 → EReal) (hM : ∀ a n, ∃ r : ℝ, M a n = (r : EReal))
    (c : Fin 128) (n : Fin 1360) : headK P c n = headR P M c n := by
  obtain ⟨q, k, hq, hk⟩ := qk_real h
  obtain ⟨μ, hμ⟩ := hM (hd c) n
  have hs : ∀ m, sc P (hd c) n m
      = (((∑ e : Fin 32, q n (col (hd c) e) * k m (col (hd c) e)) * (1 / Real.sqrt 32) : ℝ) : EReal) := fun m => by
    unfold sc
    rw [uR_eq, sqrt32]
    simp only [hq, hk]
    exact score_ref _ _
  have hw : ∀ m, wt P c n m
      = ((Real.exp ((∑ e : Fin 32, q n (col (hd c) e) * k m (col (hd c) e)) * (1 / Real.sqrt 32)) : ℝ) : EReal) := fun m => by
    unfold wt
    simp only [hq, hk]
    exact score_kernel _ _
  unfold headK headR
  rw [uR_eq, hμ]
  simp only [hs, hw]
  exact attn (by norm_num) _ μ _

/-- The rows after attention agree. -/
theorem mid_eq (h : ScoresReal P) (M : Fin 4 → Fin 1360 → EReal) (hM : ∀ a n, ∃ r : ℝ, M a n = (r : EReal)) :
    midK P = midR P M := by
  funext p j
  unfold midK midR
  simp only [head_eq h M hM]

/-- The results agree. -/
theorem fin_eq (h : ScoresReal P) (M : Fin 4 → Fin 1360 → EReal) (hM : ∀ a n, ∃ r : ℝ, M a n = (r : EReal))
    (p : Fin 4096) (j : Fin 128) : finK P p j = finR P M p j := by
  have hz : zK P = zR P M := by
    funext p k
    unfold zK zR
    rw [mid_eq h M hM, lnR_eq]
  have hh : ∀ f, hK P p f = aR P M p f * (rs2 : EReal) := fun f => by
    unfold hK aR
    rw [hz]
    exact preact _ _ _
  unfold finK finR
  rw [mid_eq h M hM, sqrt_half]
  simp only [hh, gelu_term]

end Cert.Spec

end
-- ==== Proof.BlockEq.lean ====
/-
  The block function of one batch element's rows is the kernel's formula.
-/
module

public import proofs.«01_k».proof.Proof.Read
public import proofs.«01_k».proof.Proof.Spec
public import Idealize.ShloMosaic.PureOps.IdealRules

@[expose] public section

set_option maxRecDepth 16384

noncomputable section

namespace Cert.KernelIdeal.Stages

open Cert.KernelIdeal Cert.KernelIdeal.Gen Cert.Index Cert.Spec Cert.Alg Idealize.ShloMosaic

/-- The query scale the kernel names, at the ideal instance. -/
theorem qscale_eq : Named.named (F := Ideal) κ "qscale" (φ := .f32) 0x3E8293EE#32 = ((qs : ℝ) : EReal) :=
  IdealRules.named_const.ideal_named_scalar _ _ _ _ rfl

/-- The reciprocal root of two the kernel names, at the ideal instance. -/
theorem rsqrt2_eq : Named.named (F := Ideal) κ "rsqrt2" (φ := .f32) 0x3F3504F3#32 = ((rs2 : ℝ) : EReal) :=
  IdealRules.named_const.ideal_named_scalar _ _ _ _ rfl

variable (x : FVec Ideal S4096x128 .f32) (g1 b1 : FVec Ideal S1x128 .f32) (wq : FVec Ideal S128x128 .f32)
    (bq : FVec Ideal S1x128 .f32) (wk : FVec Ideal S128x128 .f32) (bk : FVec Ideal S1x128 .f32)
    (wv : FVec Ideal S128x128 .f32) (bv : FVec Ideal S1x128 .f32) (wo : FVec Ideal S128x128 .f32)
    (bo : FVec Ideal S1x128 .f32) (g2 b2 : FVec Ideal S1x128 .f32) (w1 : FVec Ideal S128x512 .f32)
    (c1 : FVec Ideal S1x512 .f32) (w2 : FVec Ideal S512x128 .f32) (c2 : FVec Ideal S1x128 .f32)

/-- The entries of the block's operands. -/
def params : Params where
  x p k := x (ix2 p k)
  g1 k := g1 (ix2 0 k)
  b1 k := b1 (ix2 0 k)
  wq k c := wq (ix2 k c)
  bq c := bq (ix2 0 c)
  wk k c := wk (ix2 k c)
  bk c := bk (ix2 0 c)
  wv k c := wv (ix2 k c)
  bv c := bv (ix2 0 c)
  wo k c := wo (ix2 k c)
  bo c := bo (ix2 0 c)
  g2 k := g2 (ix2 0 k)
  b2 k := b2 (ix2 0 k)
  w1 k f := w1 (ix2 k f)
  c1 f := c1 (ix2 0 f)
  w2 f j := w2 (ix2 f j)
  c2 j := c2 (ix2 0 j)

/-- The node rows. -/
theorem u_at (n : Fin 1360) (k : Fin 128) :
    lnN (reps x) g1 b1 (ix2 n k) = u (params x g1 b1 wq bq wk bk wv bv wo bo g2 b2 w1 c1 w2 c2) n k := by
  rw [lnN_at]
  simp only [reps_at]
  rfl

/-- The rows after attention. -/
theorem mid_at (p : Fin 4096) (j : Fin 128) :
    mid x g1 b1 wq bq wk bk wv bv wo bo (ix2 p j)
      = midK (params x g1 b1 wq bq wk bk wv bv wo bo g2 b2 w1 c1 w2 c2) p j := by
  have hu := u_at x g1 b1 wq bq wk bk wv bv wo bo g2 b2 w1 c1 w2 c2
  show x (ix2 p j) + spread _ (ix2 p j) = _
  rw [spread_at, outN_at]
  simp only [heads_at, proj_at, projQ_at, hu, qscale_eq]
  rfl

/-- The rows after the feed-forward layer. -/
theorem fin_at (p : Fin 4096) (j : Fin 128) :
    fin (mid x g1 b1 wq bq wk bk wv bv wo bo) g2 b2 w1 c1 w2 c2 (ix2 p j)
      = finK (params x g1 b1 wq bq wk bk wv bv wo bo g2 b2 w1 c1 w2 c2) p j := by
  have hm := mid_at x g1 b1 wq bq wk bk wv bv wo bo g2 b2 w1 c1 w2 c2
  show mid x g1 b1 wq bq wk bk wv bv wo bo (ix2 p j) + ffn _ w2 c2 (ix2 p j) = _
  rw [ffn_at]
  simp only [pre_at, lnP_at, hm, rsqrt2_eq]
  rfl

/-- The block function at an entry. -/
theorem block_at (y : FVec Ideal S1x4096x128 .f32) (p : Fin 4096) (j : Fin 128) :
    block y g1 b1 wq bq wk bk wv bv wo bo g2 b2 w1 c1 w2 c2 (ix3 0 p j)
      = finK (params (fun i => y (ix3 0 (i 0) (i 1))) g1 b1 wq bq wk bk wv bv wo bo g2 b2 w1 c1 w2 c2) p j := by
  refine Eq.trans ?_ (fin_at (fun i => y (ix3 0 (i 0) (i 1))) g1 b1 wq bq wk bk wv bv wo bo g2 b2 w1 c1 w2 c2 p j)
  have e : shapeCast S4096x128 y shapeCasts_S1x4096x128_S4096x128 = fun i => y (ix3 0 (i 0) (i 1)) := by
    funext i
    obtain ⟨a, b, rfl⟩ : ∃ (a : Fin 4096) (b : Fin 128), i = ix2 a b := ⟨i 0, i 1, by funext k; fin_cases k <;> rfl⟩
    pointwise
  unfold block
  rw [e]
  generalize fin _ _ _ _ _ _ _ = z
  pointwise

end Cert.KernelIdeal.Stages

end
-- ==== Proof.Args.lean ====
/-
  One batch element's rows and the block's parameters, read off the argument arrays.
-/
module

public import proofs.«01_k».proof.Proof.Spec
public import Idealize.ShloMosaic.Lib.Pointwise

@[expose] public section

noncomputable section

namespace Cert.Spec

open Idealize.ShloMosaic

/-- A vector argument's shape. -/
abbrev V128 : Shape := ⟨1, ![128]⟩
/-- A square argument's shape. -/
abbrev M128 : Shape := ⟨2, ![128, 128]⟩

/-- Batch element `b`'s rows and the parameters. -/
def ofArgs (x : FVec Ideal ⟨5, ![8, 32, 32, 4, 128]⟩ .f32) (g1 b1 : FVec Ideal V128 .f32) (wq : FVec Ideal M128 .f32)
    (bq : FVec Ideal V128 .f32) (wk : FVec Ideal M128 .f32) (bk : FVec Ideal V128 .f32) (wv : FVec Ideal M128 .f32)
    (bv : FVec Ideal V128 .f32) (wo : FVec Ideal M128 .f32) (bo g2 b2 : FVec Ideal V128 .f32)
    (w1 : FVec Ideal ⟨2, ![128, 512]⟩ .f32) (c1 : FVec Ideal ⟨1, ![512]⟩ .f32) (w2 : FVec Ideal ⟨2, ![512, 128]⟩ .f32)
    (c2 : FVec Ideal V128 .f32) (b : Fin 8) : Params where
  x p k := x (ix5 b ⟨p.val / 128, by omega⟩ ⟨p.val / 4 % 32, by omega⟩ ⟨p.val % 4, by omega⟩ k)
  g1 k := g1 (ix1 k)
  b1 k := b1 (ix1 k)
  wq k c := wq (ix2 k c)
  bq c := bq (ix1 c)
  wk k c := wk (ix2 k c)
  bk c := bk (ix1 c)
  wv k c := wv (ix2 k c)
  bv c := bv (ix1 c)
  wo k c := wo (ix2 k c)
  bo c := bo (ix1 c)
  g2 k := g2 (ix1 k)
  b2 k := b2 (ix1 k)
  w1 k f := w1 (ix2 k f)
  c1 f := c1 (ix1 f)
  w2 f j := w2 (ix2 f j)
  c2 j := c2 (ix1 j)

end Cert.Spec

end
-- ==== Proof.Blocks.lean ====
/-
  What each window's block holds at a point, and where the output's block sits.
-/
module

public import proofs.«01_k».proof.Proof.KOut
public import proofs.«01_k».proof.Proof.BlockEq
public import proofs.«01_k».proof.Proof.Args
public import Idealize.ShloMosaic.Lib.Pipeline.ValueKit
public import Idealize.ShloMosaic.Lib.Claim

@[expose] public section

set_option maxRecDepth 16384

noncomputable section

namespace Cert.KernelIdeal.Final

open Cert.KernelIdeal Cert.KernelIdeal.Gen Cert.KernelIdeal.Stages Cert.Index Cert.Spec Cert.Alg Idealize.ShloMosaic
  Idealize.ShloMosaic.TcCoe Idealize.SL.Sem

variable (m : (ℓ : Loc nD τ sig) → Buf (Elt Ideal) ℓ)

/-- The windows' block indices at a point. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![t.val, 0, 0] :=
  (by decide +kernel : ∀ t : Fin grid0.N, _)

/-- The reshaped argument 0 when the grid starts. -/
theorem host0 (c : Dev nD) : (V (F := Ideal) m c main_v0 : FVec Ideal S8x4096x128 .f32)
    = shapeCast S8x4096x128 (m ((c.tc : Thread nD τ).loc main_arg0)) shapeCasts_S8x32x32x4x128_S8x4096x128 := by
  entry_read
  rfl

/-- Where window 0's block sits in the array. -/
theorem emb0 (t : Fin cfg0.N) (a : Fin 2) (p : Fin 4096) (j : Fin 128) :
    (win0_0.blk t).view.emb (ix3 a p j : S2x4096x128.Idx)
      = (ix3 ⟨t.val * 2 + a.val, by have : t.val < 4 := t.isLt; omega⟩ p j : S8x4096x128.Idx) := by
  funext k
  fin_cases k <;> apply Fin.ext <;> blk_simp [idx t]
  all_goals rfl

/-- The rows by position are the grid's rows. -/
theorem flat_at (z : FVec Ideal S8x32x32x4x128 .f32) (b : Fin 8) (p : Fin 4096) (k : Fin 128) :
    shapeCast S8x4096x128 z shapeCasts_S8x32x32x4x128_S8x4096x128 (ix3 b p k)
      = z (ix5 b ⟨p.val / 128, by omega⟩ ⟨p.val / 4 % 32, by omega⟩ ⟨p.val % 4, by omega⟩ k) := by
  pointwise

/-- Window 0's block holds two batch elements' rows. -/
theorem blk0 (c : Dev nD) (t : Fin cfg0.N) (a : Fin 2) (p : Fin 4096) (k : Fin 128) (b : Fin 8)
    (hb : b.val = t.val * 2 + a.val) :
    (iblk (F := Ideal) m c 0 t : FVec Ideal S2x4096x128 .f32) (ix3 a p k)
      = (m ((c.tc : Thread nD τ).loc main_arg0) : FVec Ideal S8x32x32x4x128 .f32)
          (ix5 b ⟨p.val / 128, by omega⟩ ⟨p.val / 4 % 32, by omega⟩ ⟨p.val % 4, by omega⟩ k) := by
  have h1 : (iblk (F := Ideal) m c 0 t : FVec Ideal S2x4096x128 .f32) (ix3 a p k)
      = (V (F := Ideal) m c main_v0 : FVec Ideal S8x4096x128 .f32) (ix3 b p k) :=
    congrArg (V (F := Ideal) m c main_v0 : FVec Ideal S8x4096x128 .f32)
      ((emb0 t a p k).trans (congrArg (fun d => (ix3 d p k : S8x4096x128.Idx)) (Fin.ext hb.symm)))
  rw [h1, host0]
  exact flat_at _ _ _ _

/-- The reshaped argument 1 when the grid starts. -/
theorem host1 (c : Dev nD) : (V (F := Ideal) m c main_v1 : FVec Ideal S1x128 .f32)
    = shapeCast S1x128 (m ((c.tc : Thread nD τ).loc main_arg1)) shapeCasts_S128_S1x128 := by
  entry_read
  rfl

/-- Window 1's block is its argument in one row. -/
theorem blk1 (c : Dev nD) (t : Fin cfg0.N) (k : Fin 128) :
    (iblk (F := Ideal) m c 1 t : FVec Ideal S1x128 .f32) (ix2 0 k)
      = (m ((c.tc : Thread nD τ).loc main_arg1) : FVec Ideal S128 .f32) (ix1 k) := by
  have he : (win0_1.blk t).view.emb (ix2 0 k : S1x128.Idx) = (ix2 0 k : S1x128.Idx) := by
    funext k
    fin_cases k <;> apply Fin.ext <;> blk_simp [idx t] <;> rfl
  refine ((congrArg (V m c main_v1) he).trans (congrFun (host1 m c) _)).trans ?_
  generalize m ((c.tc : Thread nD τ).loc main_arg1) = z
  pointwise

/-- The reshaped argument 2 when the grid starts. -/
theorem host2 (c : Dev nD) : (V (F := Ideal) m c main_v2 : FVec Ideal S1x128 .f32)
    = shapeCast S1x128 (m ((c.tc : Thread nD τ).loc main_arg2)) shapeCasts_S128_S1x128 := by
  entry_read
  rfl

/-- Window 2's block is its argument in one row. -/
theorem blk2 (c : Dev nD) (t : Fin cfg0.N) (k : Fin 128) :
    (iblk (F := Ideal) m c 2 t : FVec Ideal S1x128 .f32) (ix2 0 k)
      = (m ((c.tc : Thread nD τ).loc main_arg2) : FVec Ideal S128 .f32) (ix1 k) := by
  have he : (win0_2.blk t).view.emb (ix2 0 k : S1x128.Idx) = (ix2 0 k : S1x128.Idx) := by
    funext k
    fin_cases k <;> apply Fin.ext <;> blk_simp [idx t] <;> rfl
  refine ((congrArg (V m c main_v2) he).trans (congrFun (host2 m c) _)).trans ?_
  generalize m ((c.tc : Thread nD τ).loc main_arg2) = z
  pointwise

/-- Window 3's block is its argument. -/
theorem blk3 (c : Dev nD) (t : Fin cfg0.N) (k : Fin 128) (l : Fin 128) :
    (iblk (F := Ideal) m c 3 t : FVec Ideal S128x128 .f32) (ix2 k l)
      = (m ((c.tc : Thread nD τ).loc main_arg3) : FVec Ideal S128x128 .f32) (ix2 k l) := by
  blk_ext! [iblk, V, idx t]

/-- The reshaped argument 4 when the grid starts. -/
theorem host4 (c : Dev nD) : (V (F := Ideal) m c main_v3 : FVec Ideal S1x128 .f32)
    = shapeCast S1x128 (m ((c.tc : Thread nD τ).loc main_arg4)) shapeCasts_S128_S1x128 := by
  entry_read
  rfl

/-- Window 4's block is its argument in one row. -/
theorem blk4 (c : Dev nD) (t : Fin cfg0.N) (k : Fin 128) :
    (iblk (F := Ideal) m c 4 t : FVec Ideal S1x128 .f32) (ix2 0 k)
      = (m ((c.tc : Thread nD τ).loc main_arg4) : FVec Ideal S128 .f32) (ix1 k) := by
  have he : (win0_4.blk t).view.emb (ix2 0 k : S1x128.Idx) = (ix2 0 k : S1x128.Idx) := by
    funext k
    fin_cases k <;> apply Fin.ext <;> blk_simp [idx t] <;> rfl
  refine ((congrArg (V m c main_v3) he).trans (congrFun (host4 m c) _)).trans ?_
  generalize m ((c.tc : Thread nD τ).loc main_arg4) = z
  pointwise

/-- Window 5's block is its argument. -/
theorem blk5 (c : Dev nD) (t : Fin cfg0.N) (k : Fin 128) (l : Fin 128) :
    (iblk (F := Ideal) m c 5 t : FVec Ideal S128x128 .f32) (ix2 k l)
      = (m ((c.tc : Thread nD τ).loc main_arg5) : FVec Ideal S128x128 .f32) (ix2 k l) := by
  blk_ext! [iblk, V, idx t]

/-- The reshaped argument 6 when the grid starts. -/
theorem host6 (c : Dev nD) : (V (F := Ideal) m c main_v4 : FVec Ideal S1x128 .f32)
    = shapeCast S1x128 (m ((c.tc : Thread nD τ).loc main_arg6)) shapeCasts_S128_S1x128 := by
  entry_read
  rfl

/-- Window 6's block is its argument in one row. -/
theorem blk6 (c : Dev nD) (t : Fin cfg0.N) (k : Fin 128) :
    (iblk (F := Ideal) m c 6 t : FVec Ideal S1x128 .f32) (ix2 0 k)
      = (m ((c.tc : Thread nD τ).loc main_arg6) : FVec Ideal S128 .f32) (ix1 k) := by
  have he : (win0_6.blk t).view.emb (ix2 0 k : S1x128.Idx) = (ix2 0 k : S1x128.Idx) := by
    funext k
    fin_cases k <;> apply Fin.ext <;> blk_simp [idx t] <;> rfl
  refine ((congrArg (V m c main_v4) he).trans (congrFun (host6 m c) _)).trans ?_
  generalize m ((c.tc : Thread nD τ).loc main_arg6) = z
  pointwise

/-- Window 7's block is its argument. -/
theorem blk7 (c : Dev nD) (t : Fin cfg0.N) (k : Fin 128) (l : Fin 128) :
    (iblk (F := Ideal) m c 7 t : FVec Ideal S128x128 .f32) (ix2 k l)
      = (m ((c.tc : Thread nD τ).loc main_arg7) : FVec Ideal S128x128 .f32) (ix2 k l) := by
  blk_ext! [iblk, V, idx t]

/-- The reshaped argument 8 when the grid starts. -/
theorem host8 (c : Dev nD) : (V (F := Ideal) m c main_v5 : FVec Ideal S1x128 .f32)
    = shapeCast S1x128 (m ((c.tc : Thread nD τ).loc main_arg8)) shapeCasts_S128_S1x128 := by
  entry_read
  rfl

/-- Window 8's block is its argument in one row. -/
theorem blk8 (c : Dev nD) (t : Fin cfg0.N) (k : Fin 128) :
    (iblk (F := Ideal) m c 8 t : FVec Ideal S1x128 .f32) (ix2 0 k)
      = (m ((c.tc : Thread nD τ).loc main_arg8) : FVec Ideal S128 .f32) (ix1 k) := by
  have he : (win0_8.blk t).view.emb (ix2 0 k : S1x128.Idx) = (ix2 0 k : S1x128.Idx) := by
    funext k
    fin_cases k <;> apply Fin.ext <;> blk_simp [idx t] <;> rfl
  refine ((congrArg (V m c main_v5) he).trans (congrFun (host8 m c) _)).trans ?_
  generalize m ((c.tc : Thread nD τ).loc main_arg8) = z
  pointwise

/-- Window 9's block is its argument. -/
theorem blk9 (c : Dev nD) (t : Fin cfg0.N) (k : Fin 128) (l : Fin 128) :
    (iblk (F := Ideal) m c 9 t : FVec Ideal S128x128 .f32) (ix2 k l)
      = (m ((c.tc : Thread nD τ).loc main_arg9) : FVec Ideal S128x128 .f32) (ix2 k l) := by
  blk_ext! [iblk, V, idx t]

/-- The reshaped argument 10 when the grid starts. -/
theorem host10 (c : Dev nD) : (V (F := Ideal) m c main_v6 : FVec Ideal S1x128 .f32)
    = shapeCast S1x128 (m ((c.tc : Thread nD τ).loc main_arg10)) shapeCasts_S128_S1x128 := by
  entry_read
  rfl

/-- Window 10's block is its argument in one row. -/
theorem blk10 (c : Dev nD) (t : Fin cfg0.N) (k : Fin 128) :
    (iblk (F := Ideal) m c 10 t : FVec Ideal S1x128 .f32) (ix2 0 k)
      = (m ((c.tc : Thread nD τ).loc main_arg10) : FVec Ideal S128 .f32) (ix1 k) := by
  have he : (win0_10.blk t).view.emb (ix2 0 k : S1x128.Idx) = (ix2 0 k : S1x128.Idx) := by
    funext k
    fin_cases k <;> apply Fin.ext <;> blk_simp [idx t] <;> rfl
  refine ((congrArg (V m c main_v6) he).trans (congrFun (host10 m c) _)).trans ?_
  generalize m ((c.tc : Thread nD τ).loc main_arg10) = z
  pointwise

/-- The reshaped argument 11 when the grid starts. -/
theorem host11 (c : Dev nD) : (V (F := Ideal) m c main_v7 : FVec Ideal S1x128 .f32)
    = shapeCast S1x128 (m ((c.tc : Thread nD τ).loc main_arg11)) shapeCasts_S128_S1x128 := by
  entry_read
  rfl

/-- Window 11's block is its argument in one row. -/
theorem blk11 (c : Dev nD) (t : Fin cfg0.N) (k : Fin 128) :
    (iblk (F := Ideal) m c 11 t : FVec Ideal S1x128 .f32) (ix2 0 k)
      = (m ((c.tc : Thread nD τ).loc main_arg11) : FVec Ideal S128 .f32) (ix1 k) := by
  have he : (win0_11.blk t).view.emb (ix2 0 k : S1x128.Idx) = (ix2 0 k : S1x128.Idx) := by
    funext k
    fin_cases k <;> apply Fin.ext <;> blk_simp [idx t] <;> rfl
  refine ((congrArg (V m c main_v7) he).trans (congrFun (host11 m c) _)).trans ?_
  generalize m ((c.tc : Thread nD τ).loc main_arg11) = z
  pointwise

/-- The reshaped argument 12 when the grid starts. -/
theorem host12 (c : Dev nD) : (V (F := Ideal) m c main_v8 : FVec Ideal S1x128 .f32)
    = shapeCast S1x128 (m ((c.tc : Thread nD τ).loc main_arg12)) shapeCasts_S128_S1x128 := by
  entry_read
  rfl

/-- Window 12's block is its argument in one row. -/
theorem blk12 (c : Dev nD) (t : Fin cfg0.N) (k : Fin 128) :
    (iblk (F := Ideal) m c 12 t : FVec Ideal S1x128 .f32) (ix2 0 k)
      = (m ((c.tc : Thread nD τ).loc main_arg12) : FVec Ideal S128 .f32) (ix1 k) := by
  have he : (win0_12.blk t).view.emb (ix2 0 k : S1x128.Idx) = (ix2 0 k : S1x128.Idx) := by
    funext k
    fin_cases k <;> apply Fin.ext <;> blk_simp [idx t] <;> rfl
  refine ((congrArg (V m c main_v8) he).trans (congrFun (host12 m c) _)).trans ?_
  generalize m ((c.tc : Thread nD τ).loc main_arg12) = z
  pointwise

/-- Window 13's block is its argument. -/
theorem blk13 (c : Dev nD) (t : Fin cfg0.N) (k : Fin 128) (l : Fin 512) :
    (iblk (F := Ideal) m c 13 t : FVec Ideal S128x512 .f32) (ix2 k l)
      = (m ((c.tc : Thread nD τ).loc main_arg13) : FVec Ideal S128x512 .f32) (ix2 k l) := by
  blk_ext! [iblk, V, idx t]

/-- The reshaped argument 14 when the grid starts. -/
theorem host14 (c : Dev nD) : (V (F := Ideal) m c main_v9 : FVec Ideal S1x512 .f32)
    = shapeCast S1x512 (m ((c.tc : Thread nD τ).loc main_arg14)) shapeCasts_S512_S1x512 := by
  entry_read
  rfl

/-- Window 14's block is its argument in one row. -/
theorem blk14 (c : Dev nD) (t : Fin cfg0.N) (k : Fin 512) :
    (iblk (F := Ideal) m c 14 t : FVec Ideal S1x512 .f32) (ix2 0 k)
      = (m ((c.tc : Thread nD τ).loc main_arg14) : FVec Ideal S512 .f32) (ix1 k) := by
  have he : (win0_14.blk t).view.emb (ix2 0 k : S1x512.Idx) = (ix2 0 k : S1x512.Idx) := by
    funext k
    fin_cases k <;> apply Fin.ext <;> blk_simp [idx t] <;> rfl
  refine ((congrArg (V m c main_v9) he).trans (congrFun (host14 m c) _)).trans ?_
  generalize m ((c.tc : Thread nD τ).loc main_arg14) = z
  pointwise

/-- Window 15's block is its argument. -/
theorem blk15 (c : Dev nD) (t : Fin cfg0.N) (k : Fin 512) (l : Fin 128) :
    (iblk (F := Ideal) m c 15 t : FVec Ideal S512x128 .f32) (ix2 k l)
      = (m ((c.tc : Thread nD τ).loc main_arg15) : FVec Ideal S512x128 .f32) (ix2 k l) := by
  blk_ext! [iblk, V, idx t]

/-- The reshaped argument 16 when the grid starts. -/
theorem host16 (c : Dev nD) : (V (F := Ideal) m c main_v10 : FVec Ideal S1x128 .f32)
    = shapeCast S1x128 (m ((c.tc : Thread nD τ).loc main_arg16)) shapeCasts_S128_S1x128 := by
  entry_read
  rfl

/-- Window 16's block is its argument in one row. -/
theorem blk16 (c : Dev nD) (t : Fin cfg0.N) (k : Fin 128) :
    (iblk (F := Ideal) m c 16 t : FVec Ideal S1x128 .f32) (ix2 0 k)
      = (m ((c.tc : Thread nD τ).loc main_arg16) : FVec Ideal S128 .f32) (ix1 k) := by
  have he : (win0_16.blk t).view.emb (ix2 0 k : S1x128.Idx) = (ix2 0 k : S1x128.Idx) := by
    funext k
    fin_cases k <;> apply Fin.ext <;> blk_simp [idx t] <;> rfl
  refine ((congrArg (V m c main_v10) he).trans (congrFun (host16 m c) _)).trans ?_
  generalize m ((c.tc : Thread nD τ).loc main_arg16) = z
  pointwise

/-- Where window 17's block sits in the array. -/
theorem emb17 (t : Fin cfg0.N) (a : Fin 2) (p : Fin 4096) (j : Fin 128) :
    (win0_17.blk t).view.emb (ix3 a p j : S2x4096x128.Idx)
      = (ix3 ⟨t.val * 2 + a.val, by have : t.val < 4 := t.isLt; omega⟩ p j : S8x4096x128.Idx) := by
  funext k
  fin_cases k <;> apply Fin.ext <;> blk_simp [idx t]
  all_goals rfl

end Cert.KernelIdeal.Final

end
-- ==== Proof.Final.lean ====
/-
  The kernel's output array: each batch element's rows by the kernel's formula.
-/
module

public import proofs.«01_k».proof.Proof.Blocks
public import proofs.«01_k».proof.Proof.BlockEq
public import proofs.«01_k».proof.Proof.Args
public import Idealize.ShloMosaic.Lib.Pipeline.ValueKit
public import Idealize.ShloMosaic.Lib.Claim

@[expose] public section

set_option maxRecDepth 16384

noncomputable section

namespace Cert.KernelIdeal.Final

open Cert.KernelIdeal Cert.KernelIdeal.Gen Cert.KernelIdeal.Stages Cert.Index Cert.Spec Cert.Alg Idealize.ShloMosaic
  Idealize.ShloMosaic.TcCoe Idealize.SL.Sem

variable (m : (ℓ : Loc nD τ sig) → Buf (Elt Ideal) ℓ)

/-- Batch element `b`'s rows and the parameters, from the launch memory of device `c`. -/
def kargs (c : Dev nD) (b : Fin 8) : Params :=
  ofArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16)) b

/-- The output array. -/
def out (c : Dev nD) : FVec Ideal S8x4096x128 .f32 := fun i => finK (kargs m c (i 0)) (i 1) (i 2)

/-- A point's operands are its batch element's rows and the parameters. -/
theorem params_eq (c : Dev nD) (t : Fin cfg0.N) (a : Fin 2) (b : Fin 8) (hb : b.val = t.val * 2 + a.val) :
    params (fun i => (iblk (F := Ideal) m c 0 t : FVec Ideal S2x4096x128 .f32) (ix3 a (i 0) (i 1)))
      (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) = kargs m c b := by
  unfold params kargs ofArgs
  congr 1
  · exact funext fun p => funext fun k => blk0 m c t a p k b hb
  · exact funext fun k => blk1 m c t k
  · exact funext fun k => blk2 m c t k
  · exact funext fun k => funext fun l => blk3 m c t k l
  · exact funext fun k => blk4 m c t k
  · exact funext fun k => funext fun l => blk5 m c t k l
  · exact funext fun k => blk6 m c t k
  · exact funext fun k => funext fun l => blk7 m c t k l
  · exact funext fun k => blk8 m c t k
  · exact funext fun k => funext fun l => blk9 m c t k l
  · exact funext fun k => blk10 m c t k
  · exact funext fun k => blk11 m c t k
  · exact funext fun k => blk12 m c t k
  · exact funext fun k => funext fun l => blk13 m c t k l
  · exact funext fun k => blk14 m c t k
  · exact funext fun k => funext fun l => blk15 m c t k l
  · exact funext fun k => blk16 m c t k

/-- The array the grid leaves. -/
theorem final (c : Dev nD) : (dats (F := Ideal) m 0 c).arrAt 17 cfg0.N = out m c := by
  refine (dats m 0 c).arrAt_eq_of_covers 17 _ (by decide +kernel) fun t _ y => ?_
  blk_simp
  rw [after0_17]
  have hy : ∃ (a : Fin 2) (p : Fin 4096) (j : Fin 128), y = (ix3 a p j : S2x4096x128.Idx) :=
    ⟨y 0, y 1, y 2, by funext k; fin_cases k <;> rfl⟩
  obtain ⟨a, p, j, rfl⟩ := hy
  have ht : t.val < 4 := t.isLt
  refine (out_at _ _ _ _ _ _ _ _ _ _ _ _ _ _ _ _ _ _).trans ?_
  refine (block_at _ _ _ _ _ _ _ _ _ _ _ _ _ _ _ _ _ p j).trans ?_
  refine Eq.trans ?_ (congrArg (out m c) (emb17 t a p j).symm)
  exact congrArg (fun P => finK P p j) (params_eq m c t a ⟨t.val * 2 + a.val, by omega⟩ rfl)

end Cert.KernelIdeal.Final

end
-- ==== Proof.KRun.lean ====
/-
  The kernel's run: its result array is the output array in the argument's shape.
-/
module

public import proofs.«01_k».proof.Proof.Final

@[expose] public section

set_option maxRecDepth 16384

noncomputable section

namespace Cert.KernelIdeal.Final

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array, in the argument's shape. -/
def result (c : Dev nD) : FVec Ideal S8x32x32x4x128 .f32 :=
  shapeCast S8x32x32x4x128 (out m c) shapeCasts_S8x4096x128_S8x32x32x4x128

/-- The operation after the grid puts the output array in the argument's shape. -/
theorem tail_result (σ : Valuation τ sig (Elt Ideal)) :
    StableHlo.after (List.flatten [hostOps1]) σ (Proc.devRef .tc main_v12)
      = shapeCast S8x32x32x4x128 (σ (Proc.devRef .tc main_v11)) shapeCasts_S8x4096x128_S8x32x32x4x128 := by
  show StableHlo.after [StableHlo.reshape main_v11 main_v12 (rfl : (.f32 : EltTy) = .f32) shapeCasts_S8x4096x128_S8x32x32x4x128] σ _ = _
  first | (after_results; done) | (after_results; rfl)

/-- What the result array ends holding. -/
theorem result_run : θ_run defs (onTc (τ := τ) (main (F := Ideal))) ⟨m, fun _ => 0, ρ⟩
    (fun r => ∀ c : Dev nD, r.2.mem ((c.tc : Thread nD τ).loc main_v12) = result m c) := by
  refine θ_run_mono (run_main (F := Ideal) m ρ) ?_
  intro r hr c
  refine ((hr c).2 main_v12 (Pipeline.mem_restRefs_of main_v12 (by decide) (by decide))).trans ?_
  unfold Pipeline.afterTail₀ result
  rw [tail_result]
  refine congrArg (fun z => shapeCast S8x32x32x4x128 z shapeCasts_S8x4096x128_S8x32x32x4x128) ?_
  exact (Pipeline.withArrays_arr spec0 (by decide) c (V0 m c) _ 17).trans (final m c)

end Cert.KernelIdeal.Final

end
-- ==== Proof.Tables.lean ====
/-
  The reference's two index tables in closed form.
-/
module

public import proofs.«01_k».proof.ReferenceIdeal
public import proofs.«01_k».proof.Proof.Index

@[expose] public section

set_option maxRecDepth 16384

noncomputable section

namespace Cert.ReferenceIdeal.Tables

open Cert.ReferenceIdeal Cert.Index Idealize.ShloMosaic Idealize.ShloMosaic.TcCoe

/-- The first table lists each node's representative position. -/
theorem lit1_eq (n : Fin 1360) : lit1 n = BitVec.ofNat 32 (rep n).val :=
  (by decide +kernel : ∀ n : Fin 1360, lit1 n = BitVec.ofNat 32 (rep n).val) n

/-- The second table lists each position's node. -/
theorem lit0_eq (p : Fin 4096) : lit0 p = BitVec.ofNat 32 (node p).val :=
  (by decide +kernel : ∀ p : Fin 4096, lit0 p = BitVec.ofNat 32 (node p).val) p

end Cert.ReferenceIdeal.Tables

end
-- ==== Proof.Gather.lean ====
/-
  A gather along the middle axis of a batched array, read at an index: the row that the start index names.
-/
module

public import Idealize.ShloMosaic.Lib.Pipeline.ValueKit
public import Idealize.ShloMosaic.Lib.Pointwise

@[expose] public section

noncomputable section

namespace Cert.Gather

open Idealize.ShloMosaic Idealize.ShloMosaic.TcCoe

/-- The dimension numbers of a gather along the middle axis. -/
abbrev midDims (B N C D : Nat)
    (wf : GatherDims.WF ⟨3, ![B, N, D]⟩ ⟨2, ![C, 1]⟩ ⟨3, ![B, C, D]⟩ [0, 2] [1] [] [1] [] 1 ![B, 1, D]) :
    GatherDims ⟨3, ![B, N, D]⟩ ⟨2, ![C, 1]⟩ ⟨3, ![B, C, D]⟩ where
  offsetDims := [0, 2]
  collapsedSliceDims := [1]
  operandBatchingDims := []
  startIndicesBatchingDims := []
  startIndexMap := [1]
  indexVectorDim := 1
  sliceSizes := ![B, 1, D]
  wf := wf

/-- The gather along the middle axis at an index: the row of the start index, clamped. -/
theorem gather_mid {α : Type} {B N C D w : Nat} (hN : 0 < N)
    (wf : GatherDims.WF ⟨3, ![B, N, D]⟩ ⟨2, ![C, 1]⟩ ⟨3, ![B, C, D]⟩ [0, 2] [1] [] [1] [] 1 ![B, 1, D])
    (x : (⟨3, ![B, N, D]⟩ : Shape).Idx → α) (idx : IVec ⟨2, ![C, 1]⟩ w) (b : Fin B) (c : Fin C) (d : Fin D) :
    Host.gather (midDims B N C D wf) x idx (ix3 b c d)
      = x (ix3 b ⟨min (idx (ix2 c 0)).toInt.toNat (N - 1), by omega⟩ d) := by
  unfold Host.gather
  congr 1
  funext a
  refine Fin.ext ?_
  show (midDims B N C D wf).start (ix3 b c d) idx a + (midDims B N C D wf).batchCoord (ix3 b c d) a
      + (midDims B N C D wf).offCoord (ix3 b c d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases ha with rfl | rfl | rfl
  · unfold GatherDims.start GatherDims.offCoord
    rw [dif_neg (fun h => absurd (List.mem_singleton.mp h) (by decide : (0 : Fin 3) ≠ 1)),
      dif_pos ((GatherDims.mem_sKept _ _).2 ⟨fun h => absurd (List.mem_singleton.mp h) (by decide : (0 : Fin 3) ≠ 1), List.not_mem_nil⟩)]
    simp
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N C D wf).startIndexMap from List.mem_singleton.mpr rfl)]
    have hsi : (midDims B N C D wf).siIdx (ix3 b c d) ⟨List.idxOf (1 : Fin 3) (midDims B N C D wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  · unfold GatherDims.start GatherDims.offCoord
    rw [dif_neg (fun h => absurd (List.mem_singleton.mp h) (by decide : (2 : Fin 3) ≠ 1)),
      dif_pos ((GatherDims.mem_sKept _ _).2 ⟨fun h => absurd (List.mem_singleton.mp h) (by decide : (2 : Fin 3) ≠ 1), List.not_mem_nil⟩)]
    simp

end Cert.Gather

end
-- ==== Proof.RefLn.lean ====
/-
  The reference's normalised rows gathered at the nodes, at an index.
-/
module

public import proofs.«01_k».proof.Proof.Gen.ReferenceIdeal.Run
public import proofs.«01_k».proof.Proof.Tables
public import proofs.«01_k».proof.Proof.Gather
public import proofs.«01_k».proof.Proof.Alg

@[expose] public section

set_option maxRecDepth 16384

noncomputable section

namespace Cert.ReferenceIdeal.Read

open Cert.ReferenceIdeal Cert.ReferenceIdeal.Gen Cert.ReferenceIdeal.Value Cert.Index Idealize.ShloMosaic
  Idealize.ShloMosaic.TcCoe Idealize.SL.Sem

/-- A conjunction of true bits is true. -/
theorem fold_andi_one {ι : Type} (s : Finset ι) (f : ι → BitVec 1) (h : ∀ i, f i = 1#1) :
    s.fold IntOp.andi (1#1) f = 1#1 := by
  classical
  induction s using Finset.induction_on with
  | empty => rfl
  | insert a s ha ih => rw [Finset.fold_insert ha, ih, h a]; rfl

/-- A table's row number is not negative, so it is taken as it stands. -/
theorem wrap_word (k : BitVec 32) : ∀ n : Fin 4096,
    Scalar.select (IntOp.cmpi .slt (BitVec.ofNat 32 n.val) 0#32) k (BitVec.ofNat 32 n.val) = BitVec.ofNat 32 n.val := by
  intro n
  have h : IntOp.cmpi .slt (BitVec.ofNat 32 n.val) 0#32 = 0#1 :=
    (by decide +kernel : ∀ n : Fin 4096, IntOp.cmpi .slt (BitVec.ofNat 32 n.val) 0#32 = 0#1) n
  rw [h]; rfl

/-- A row number below the bound passes both bound tests. -/
theorem mask_word1 : ∀ n : Fin 4096, IntOp.andi (IntOp.cmpi .sge (BitVec.ofNat 32 n.val) 0#32)
    (IntOp.cmpi .sle (BitVec.ofNat 32 n.val) 4095#32) = 1#1 := by decide +kernel
/-- A node number below the bound passes both bound tests. -/
theorem mask_word0 : ∀ n : Fin 1360, IntOp.andi (IntOp.cmpi .sge (BitVec.ofNat 32 n.val) 0#32)
    (IntOp.cmpi .sle (BitVec.ofNat 32 n.val) 1359#32) = 1#1 := by decide +kernel

/-- The word of a row number, read as an integer and then as a natural number, is that number. -/
theorem toNat_word : ∀ n : Fin 4096, (BitVec.ofNat 32 n.val).toInt.toNat = n.val := by decide +kernel

variable (V0 : Valuation τ sig (Elt Ideal))

/-- The index column of the first gather lists the representatives. -/
theorem idx1_col (n : Fin 1360) :
    (res_main_call0_v5 V0 : IVec S1360x1 32) (ix2 n 0) = BitVec.ofNat 32 (rep n).val := by
  pointwise [res_main_call0_v5, res_main_c_0]
  have hr : S1360.rowMajor (ix1 n) = n := Fin.ext ((Shape.rowMajorPi_succ_val _ _).trans (by simp))
  rw [hr, Tables.lit1_eq]
  exact wrap_word _ (rep n)

/-- The first gather's index column at any of its indices. -/
theorem idx1_at (i : S1360x1.Idx) :
    (res_main_call0_v5 V0 : IVec S1360x1 32) i = BitVec.ofNat 32 (rep (i 0)).val := by
  refine (congrArg (res_main_call0_v5 V0 : IVec S1360x1 32) (funext fun a => ?_)).trans (idx1_col V0 (i 0))
  match a with
  | ⟨0, _⟩ => rfl
  | ⟨1, _⟩ => exact Subsingleton.elim (α := Fin 1) _ _

/-- The index column of the second gather lists the nodes. -/
theorem idx0_col (n : Fin 4096) :
    (res_main_call1_v5 V0 : IVec S4096x1 32) (ix2 n 0) = BitVec.ofNat 32 (node n).val := by
  pointwise [res_main_call1_v5, res_main_c]
  have hr : S4096.rowMajor (ix1 n) = n := Fin.ext ((Shape.rowMajorPi_succ_val _ _).trans (by simp))
  rw [hr, Tables.lit0_eq]
  exact wrap_word _ ⟨(node n).val, by omega⟩

/-- The second gather's index column at any of its indices. -/
theorem idx0_at (i : S4096x1.Idx) :
    (res_main_call1_v5 V0 : IVec S4096x1 32) i = BitVec.ofNat 32 (node (i 0)).val := by
  refine (congrArg (res_main_call1_v5 V0 : IVec S4096x1 32) (funext fun a => ?_)).trans (idx0_col V0 (i 0))
  match a with
  | ⟨0, _⟩ => rfl
  | ⟨1, _⟩ => exact Subsingleton.elim (α := Fin 1) _ _

/-- The first gather reads the representative's row. -/
theorem gather1_at (X : FVec Ideal S8x4096x128 .f32) (b : Fin 8) (n : Fin 1360) (j : Fin 128) :
    Host.gather gather_S8x4096x128_S1360x1_S8x1360x128_02_1_n_n_1_1_81128 X (res_main_call0_v5 V0) (ix3 b n j)
      = X (ix3 b (rep n) j) := by
  refine (Cert.Gather.gather_mid (N := 4096) (by decide)
    gather_S8x4096x128_S1360x1_S8x1360x128_02_1_n_n_1_1_81128_wf X (res_main_call0_v5 V0) b n j).trans ?_
  refine congrArg (fun p => X (ix3 b p j)) (Fin.ext ?_)
  show min ((res_main_call0_v5 V0 : IVec S1360x1 32) (ix2 n 0)).toInt.toNat 4095 = (rep n).val
  rw [idx1_at V0 (ix2 n 0)]
  show min (BitVec.ofNat 32 (rep n).val).toInt.toNat 4095 = (rep n).val
  rw [toNat_word (rep n)]
  have := (rep n).isLt
  omega

/-- The second gather reads the node's row. -/
theorem gather0_at (X : FVec Ideal S8x1360x128 .f32) (b : Fin 8) (p : Fin 4096) (j : Fin 128) :
    Host.gather gather_S8x1360x128_S4096x1_S8x4096x128_02_1_n_n_1_1_81128 X (res_main_call1_v5 V0) (ix3 b p j)
      = X (ix3 b (node p) j) := by
  refine (Cert.Gather.gather_mid (N := 1360) (by decide)
    gather_S8x1360x128_S4096x1_S8x4096x128_02_1_n_n_1_1_81128_wf X (res_main_call1_v5 V0) b p j).trans ?_
  refine congrArg (fun p => X (ix3 b p j)) (Fin.ext ?_)
  show min ((res_main_call1_v5 V0 : IVec S4096x1 32) (ix2 p 0)).toInt.toNat 1359 = (node p).val
  rw [idx0_at V0 (ix2 p 0)]
  show min (BitVec.ofNat 32 (node p).val).toInt.toNat 1359 = (node p).val
  rw [toNat_word ⟨(node p).val, by omega⟩]
  have := (node p).isLt
  dsimp only
  omega

/-- The rows of a batch element by position. -/
def row5 (x : FVec Ideal S8x32x32x4x128 .f32) (b : Fin 8) (p : Fin 4096) (k : Fin 128) : EReal :=
  x (ix5 b ⟨p.val / 128, by omega⟩ ⟨p.val / 4 % 32, by omega⟩ ⟨p.val % 4, by omega⟩ k)

/-- The normalised row, its mean computed apart. -/
theorem lnR_of (row : Fin 128 → EReal) (μ : EReal) (j : Fin 128) (h : μ = Cert.Alg.mean row) :
    Ideal.div (row j - μ) (Ideal.sqrt (Ideal.div (∑ k, (row k - μ) * (row k - μ)) (Ideal.ofBits .f32 0x43000000#32)
      + Ideal.ofBits .f32 0x3727C5AC#32)) = Cert.Alg.lnR row j := by
  subst h
  rfl

/-- The reference's mean of a row. -/
theorem v3_at (b : Fin 8) (h w : Fin 32) (l : Fin 4) :
    (res_main_v3 V0 : FVec Ideal S8x32x32x4x1 .f32) (ix5 b h w l 0)
      = Cert.Alg.mean fun k => (V0 (Proc.devRef .tc main_arg0) : FVec Ideal S8x32x32x4x128 .f32) (ix5 b h w l k) := by
  pointwise [res_main_v3]
  rfl

/-- The reference's normalised row of a node. -/
theorem v25_at (b : Fin 8) (n : Fin 1360) (j : Fin 128) :
    (res_main_v25 V0 : FVec Ideal S8x1360x128 .f32) (ix3 b n j)
      = Cert.Alg.lnR (row5 (V0 (Proc.devRef .tc main_arg0)) b (rep n)) j
          * (V0 (Proc.devRef .tc main_arg1) : FVec Ideal S128 .f32) (ix1 j)
          + (V0 (Proc.devRef .tc main_arg2) : FVec Ideal S128 .f32) (ix1 j) := by
  pointwise [res_main_v25]
  rw [fold_andi_one _ _ fun i => by
    have e := idx1_at V0 i
    rw [e]
    exact mask_word1 (rep (i 0)), ValueIdx.select_one]
  refine (gather1_at V0 _ b n j).trans ?_
  pointwise [res_main_v5]
  refine congrArg₂ (fun y z : EReal => y + z) (congrArg₂ (fun y z : EReal => y * z)
    (lnR_of (row5 (V0 (Proc.devRef .tc main_arg0)) b (rep n)) _ j (v3_at V0 b _ _ _)) ?_) ?_
  · exact rfl
  · exact rfl

end Cert.ReferenceIdeal.Read

end
-- ==== Proof.RefAttn.lean ====
/-
  The reference's attention at an index: projections, scores, weights, and the rows after the first residual sum.
-/
module

public import proofs.«01_k».proof.Proof.RefLn
public import proofs.«01_k».proof.Proof.Attn

@[expose] public section

set_option maxRecDepth 16384

noncomputable section

namespace Cert.ReferenceIdeal.Read

open Cert.ReferenceIdeal Cert.ReferenceIdeal.Gen Cert.ReferenceIdeal.Value Cert.Index Idealize.ShloMosaic
  Idealize.ShloMosaic.TcCoe Idealize.SL.Sem

variable (V0 : Valuation τ sig (Elt Ideal))

/-- An entry of the reference's node rows. -/
def U (b : Fin 8) (n : Fin 1360) (k : Fin 128) : EReal := (res_main_v25 V0 : FVec Ideal S8x1360x128 .f32) (ix3 b n k)
/-- A score. -/
def Sc (b : Fin 8) (a : Fin 4) (n m : Fin 1360) : EReal :=
  (res_main_v48 V0 : FVec Ideal S8x4x1360x1360 .f32) (ix4 b a n m)
/-- A weight before its division. -/
def Ex (b : Fin 8) (a : Fin 4) (n m : Fin 1360) : EReal :=
  (res_main_v55 V0 : FVec Ideal S8x4x1360x1360 .f32) (ix4 b a n m)

/-- A projection of the reference's node rows with its bias. -/
def projR (W : FVec Ideal S128x128 .f32) (B : FVec Ideal S128 .f32) (b : Fin 8) (n : Fin 1360) (c : Fin 128) : EReal :=
  ∑ k : Fin 128, U V0 b n k * W (ix2 k c) + B (ix1 c)

/-- A score of head `a`. -/
theorem v48_at (b : Fin 8) (a : Fin 4) (n m : Fin 1360) :
    Sc V0 b a n m
      = Ideal.div (∑ e : Fin 32,
          projR V0 (V0 (Proc.devRef .tc main_arg3)) (V0 (Proc.devRef .tc main_arg4)) b n ⟨a.val * 32 + e.val, by omega⟩
          * projR V0 (V0 (Proc.devRef .tc main_arg5)) (V0 (Proc.devRef .tc main_arg6)) b m ⟨a.val * 32 + e.val, by omega⟩)
          (Ideal.sqrt (Ideal.ofBits .f32 0x42000000#32)) := by
  unfold Sc
  pointwise [res_main_v48]
  rfl

/-- The pattern of negative infinity. -/
theorem ninf_eq : Ideal.ofBits .f32 0xFF800000#32 = ⊥ := by
  simp [Ideal.ofBits, Ideal.ieee]

/-- A maximum over reals, some there, is real. -/
theorem reduce_max_real {s t u : Shape} {axes : List (Fin s.rank)} (x : s.Idx → EReal) (init : u.Idx → EReal)
    (h : s.ReducesTo axes t) (hu : 0 < u.numel) (j : t.Idx) (hi : ∀ k, init k = ⊥) (hx : ∀ i, ∃ r : ℝ, x i = (r : EReal))
    (hj : ∃ i, h.drop i = j) : ∃ r : ℝ, Host.reduce max x init h hu j = (r : EReal) := by
  classical
  choose f hf using hx
  obtain rfl : x = fun i => (f i : EReal) := funext hf
  rw [Host.reduce_eq_fold, hi]
  rcases Cert.Alg.fold_max_real (Finset.univ.filter fun i => h.drop i = j) f with ⟨-, he⟩ | ⟨M, hM⟩
  · obtain ⟨i, hi⟩ := hj
    exact absurd (he ▸ Finset.mem_filter.2 ⟨Finset.mem_univ i, hi⟩) (Finset.notMem_empty i)
  · exact ⟨M, by convert hM⟩

/-- The number the reference subtracts from a query's scores: their maximum. -/
def Mx (b : Fin 8) (a : Fin 4) (n : Fin 1360) : EReal :=
  max (Ideal.ofBits .f32 0xFF800000#32) ((Host.reduce FloatOps.maximumf (res_main_v48 V0)
    (constant S_ .f32 0xFF800000#32) reducesTo_S8x4x1360x1360_S8x4x1360_d3 h_S_ : FVec Ideal S8x4x1360 .f32) (ix3 b a n))

/-- The exponential of a score less the row's bounded maximum, for any scores and any maxima. -/
theorem exp_sub_at (A : FVec Ideal S8x4x1360x1360 .f32) (R : FVec Ideal S8x4x1360 .f32) (b : Fin 8) (a : Fin 4)
    (n m : Fin 1360) :
    Host.exp (subf A (broadcastInDim S8x4x1360x1360 ![0, 1, 2, 3] bcast_S8x4x1360x1_S8x4x1360x1360_0_1_2_3
      (broadcastInDim S8x4x1360x1 ![0, 1, 2] bcast_S8x4x1360_S8x4x1360x1_0_1_2
        (maximumf (broadcastInDim S8x4x1360 ![] bcast_S_S8x4x1360 (constant S_ .f32 0xFF800000#32)) R)))) (ix4 b a n m)
      = Ideal.exp (A (ix4 b a n m) - max (Ideal.ofBits .f32 0xFF800000#32) (R (ix3 b a n))) := by
  pointwise

/-- A weight is the exponential of its score less that number. -/
theorem v55_at (b : Fin 8) (a : Fin 4) (n m : Fin 1360) :
    Ex V0 b a n m = Ideal.exp (Sc V0 b a n m - Mx V0 b a n) :=
  exp_sub_at (res_main_v48 V0) (Host.reduce FloatOps.maximumf (res_main_v48 V0) (constant S_ .f32 0xFF800000#32)
    reducesTo_S8x4x1360x1360_S8x4x1360_d3 h_S_) b a n m

/-- The number subtracted is real when the scores are. -/
theorem Mx_real (b : Fin 8) (a : Fin 4) (n : Fin 1360)
    (h : ∀ b a n m, ∃ r : ℝ, Sc V0 b a n m = (r : EReal)) : ∃ r : ℝ, Mx V0 b a n = (r : EReal) := by
  obtain ⟨r, hr⟩ := reduce_max_real (s := S8x4x1360x1360) (res_main_v48 V0)
    (constant (F := Ideal) S_ .f32 0xFF800000#32) reducesTo_S8x4x1360x1360_S8x4x1360_d3 h_S_ (ix3 b a n) (fun _ => ninf_eq)
    (fun i => by
      obtain ⟨r, hr⟩ := h (i 0) (i 1) (i 2) (i 3)
      refine ⟨r, (congrArg _ (funext fun a => ?_)).trans hr⟩
      match a with
      | ⟨0, _⟩ => rfl
      | ⟨1, _⟩ => rfl
      | ⟨2, _⟩ => rfl
      | ⟨3, _⟩ => rfl)
    ⟨ix4 b a n 0, funext fun a => by
      match a with
      | ⟨0, _⟩ => rfl
      | ⟨1, _⟩ => rfl
      | ⟨2, _⟩ => rfl⟩
  refine ⟨r, ?_⟩
  unfold Mx
  rw [ninf_eq]
  exact (max_eq_right bot_le).trans hr

end Cert.ReferenceIdeal.Read

end
-- ==== Proof.RefOut.lean ====
/-
  The reference's rows after the first residual sum, and its result, at an index.
-/
module

public import proofs.«01_k».proof.Proof.RefAttn

@[expose] public section

set_option maxRecDepth 16384

noncomputable section

namespace Cert.ReferenceIdeal.Read

open Cert.ReferenceIdeal Cert.ReferenceIdeal.Gen Cert.ReferenceIdeal.Value Cert.Index Idealize.ShloMosaic
  Idealize.ShloMosaic.TcCoe Idealize.SL.Sem

variable (V0 : Valuation τ sig (Elt Ideal))

/-- One column of the heads' outputs at a node: the values weighted. -/
def headR (b : Fin 8) (n : Fin 1360) (c : Fin 128) : EReal :=
  ∑ m : Fin 1360, Ideal.div (Ex V0 b ⟨c.val / 32, by omega⟩ n m) (∑ l : Fin 1360, Ex V0 b ⟨c.val / 32, by omega⟩ n l)
    * projR V0 (V0 (Proc.devRef .tc main_arg7)) (V0 (Proc.devRef .tc main_arg8)) b m c

/-- The rows after the first residual sum. -/
theorem v69_at (b : Fin 8) (p : Fin 4096) (j : Fin 128) :
    row5 (res_main_v69 V0) b p j
      = row5 (V0 (Proc.devRef .tc main_arg0)) b p j
        + (∑ c : Fin 128, headR V0 b (node p) c * (V0 (Proc.devRef .tc main_arg9) : FVec Ideal S128x128 .f32) (ix2 c j)
          + (V0 (Proc.devRef .tc main_arg10) : FVec Ideal S128 .f32) (ix1 j)) := by
  unfold row5
  pointwise [res_main_v69]
  rw [fold_andi_one _ _ fun i => by
    have e := idx0_at V0 i
    rw [e]
    exact mask_word0 (node (i 0)), ValueIdx.select_one]
  refine congrArg₂ (fun y z : EReal => y + z) rfl ((congrArg _ ?_).trans ((gather0_at V0 _ b p j).trans ?_))
  · rfl
  · generalize node p = q
    pointwise
    rfl

/-- The rows after the first residual sum, by position. -/
def Y (b : Fin 8) (p : Fin 4096) (k : Fin 128) : EReal := row5 (res_main_v69 V0) b p k

/-- The reference's second mean of a row. -/
theorem v73_at (b : Fin 8) (h w : Fin 32) (l : Fin 4) :
    (res_main_v73 V0 : FVec Ideal S8x32x32x4x1 .f32) (ix5 b h w l 0)
      = Cert.Alg.mean fun k => (res_main_v69 V0 : FVec Ideal S8x32x32x4x128 .f32) (ix5 b h w l k) := by
  pointwise [res_main_v73]
  rfl

/-- The second normalisation at an entry. -/
def Z (b : Fin 8) (p : Fin 4096) (k : Fin 128) : EReal :=
  Cert.Alg.lnR (Y V0 b p) k * (V0 (Proc.devRef .tc main_arg11) : FVec Ideal S128 .f32) (ix1 k)
    + (V0 (Proc.devRef .tc main_arg12) : FVec Ideal S128 .f32) (ix1 k)

/-- A pre-activation. -/
theorem v98_at (b : Fin 8) (p : Fin 4096) (f : Fin 512) :
    (res_main_v98 V0 : FVec Ideal S8x4096x512 .f32) (ix3 b p f)
      = ∑ k : Fin 128, Z V0 b p k * (V0 (Proc.devRef .tc main_arg13) : FVec Ideal S128x512 .f32) (ix2 k f)
        + (V0 (Proc.devRef .tc main_arg14) : FVec Ideal S512 .f32) (ix1 f) := by
  pointwise [res_main_v98, res_main_v75]
  refine congrArg₂ (fun y z : EReal => y + z) (Finset.sum_congr rfl fun k _ => ?_) rfl
  refine congrArg₂ (fun y z : EReal => y * z) ?_ rfl
  refine congrArg₂ (fun y z : EReal => y + z) ?_ rfl
  refine congrArg₂ (fun y z : EReal => y * z) ?_ rfl
  exact lnR_of (Y V0 b p) _ k (v73_at V0 b _ _ _)

/-- The feed-forward layer and the second residual sum, for any rows and any pre-activations. -/
theorem tail_at (y : FVec Ideal S8x32x32x4x128 .f32) (a : FVec Ideal S8x4096x512 .f32) (w : FVec Ideal S512x128 .f32)
    (c : FVec Ideal S128 .f32) (b : Fin 8) (p : Fin 4096) (j : Fin 128) :
    row5 (addf y (shapeCast _ (addf (Host.dotGeneral dot_S8x4096x512_S512x128_S8x4096x128_2_0_01_1_n_n none
      (mulf (mulf (broadcastInDim S8x4096x512 ![] bcast_S_S8x4096x512 (constant S_ .f32 0x3F000000#32)) a)
        (Host.erfc (mulf (Host.negf a) (broadcastInDim S8x4096x512 ![] bcast_S_S8x4096x512
          (Host.sqrt (constant S_ .f32 0x3F000000#32)))))) w)
      (broadcastInDim S8x4096x128 ![0, 1, 2] bcast_S1x1x128_S8x4096x128_0_1_2
        (broadcastInDim S1x1x128 ![2] bcast_S128_S1x1x128_2 c))) shapeCasts_S8x4096x128_S8x32x32x4x128)) b p j
      = row5 y b p j + (∑ f : Fin 512, Ideal.ofBits .f32 0x3F000000#32 * a (ix3 b p f)
          * Ideal.erfc (-a (ix3 b p f) * Ideal.sqrt (Ideal.ofBits .f32 0x3F000000#32)) * w (ix2 f j) + c (ix1 j)) := by
  unfold row5
  pointwise

end Cert.ReferenceIdeal.Read

end
-- ==== Proof.RefFinal.lean ====
/-
  The reference's result is its formula of the argument arrays, its weights shifted by a real.
-/
module

public import proofs.«01_k».proof.Proof.RefOut
public import proofs.«01_k».proof.Proof.Args

@[expose] public section

set_option maxRecDepth 16384

noncomputable section

namespace Cert.ReferenceIdeal.Read

open Cert.ReferenceIdeal Cert.ReferenceIdeal.Gen Cert.ReferenceIdeal.Value Cert.Index Idealize.ShloMosaic
  Idealize.ShloMosaic.TcCoe Idealize.SL.Sem

variable (V0 : Valuation τ sig (Elt Ideal))

/-- Batch element `b`'s rows and the parameters, from the reference's launch contents. -/
def rargs (b : Fin 8) : Cert.Spec.Params :=
  Cert.Spec.ofArgs (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) b

/-- The node rows. -/
theorem U_eq (b : Fin 8) : U V0 b = Cert.Spec.uR (rargs V0 b) := by
  funext n k
  exact v25_at V0 b n k

/-- A score. -/
theorem Sc_eq (b : Fin 8) (a : Fin 4) (n m : Fin 1360) : Sc V0 b a n m = Cert.Spec.sc (rargs V0 b) a n m := by
  refine (v48_at V0 b a n m).trans ?_
  unfold projR
  rw [U_eq]
  rfl

/-- A head's output. -/
theorem headR_eq (b : Fin 8) (n : Fin 1360) (c : Fin 128) :
    headR V0 b n c = Cert.Spec.headR (rargs V0 b) (fun a n => Mx V0 b a n) c n := by
  unfold headR projR
  rw [U_eq]
  simp only [v55_at, Sc_eq]
  rfl

/-- The rows after attention. -/
theorem Y_eq (b : Fin 8) (p : Fin 4096) : Y V0 b p = Cert.Spec.midR (rargs V0 b) (fun a n => Mx V0 b a n) p := by
  funext j
  refine (v69_at V0 b p j).trans ?_
  simp only [headR_eq]
  rfl

/-- The pre-activations. -/
theorem A_eq (b : Fin 8) (p : Fin 4096) (f : Fin 512) :
    (res_main_v98 V0 : FVec Ideal S8x4096x512 .f32) (ix3 b p f)
      = Cert.Spec.aR (rargs V0 b) (fun a n => Mx V0 b a n) p f := by
  refine (v98_at V0 b p f).trans ?_
  unfold Z
  rw [Y_eq]
  rfl

/-- The result at an entry, by position. -/
theorem result_at (b : Fin 8) (p : Fin 4096) (j : Fin 128) :
    row5 (addf (res_main_v69 V0 : FVec Ideal S8x32x32x4x128 .f32) (shapeCast _ (addf (Host.dotGeneral (φ₁ := .f32) (φ₂ := .f32) dot_S8x4096x512_S512x128_S8x4096x128_2_0_01_1_n_n none
      (mulf (mulf (broadcastInDim S8x4096x512 ![] bcast_S_S8x4096x512 (constant S_ .f32 0x3F000000#32))
          (res_main_v98 V0 : FVec Ideal S8x4096x512 .f32))
        (Host.erfc (mulf (Host.negf (res_main_v98 V0 : FVec Ideal S8x4096x512 .f32)) (broadcastInDim S8x4096x512 ![] bcast_S_S8x4096x512
          (Host.sqrt (constant S_ .f32 0x3F000000#32)))))) (V0 (Proc.devRef .tc main_arg15) : FVec Ideal S512x128 .f32))
      (broadcastInDim S8x4096x128 ![0, 1, 2] bcast_S1x1x128_S8x4096x128_0_1_2
        (broadcastInDim S1x1x128 ![2] bcast_S128_S1x1x128_2 (V0 (Proc.devRef .tc main_arg16) : FVec Ideal S128 .f32))))
        shapeCasts_S8x4096x128_S8x32x32x4x128)) b p j
      = Cert.Spec.finR (rargs V0 b) (fun a n => Mx V0 b a n) p j := by
  refine (tail_at _ _ _ _ b p j).trans ?_
  have hY : row5 (res_main_v69 V0) b p j = _ := congrFun (Y_eq V0 b p) j
  simp only [A_eq]
  rw [hY]
  rfl

/-- The shift is real when the scores are. -/
theorem shift_real (h : ∀ b, Cert.Spec.ScoresReal (rargs V0 b)) (b : Fin 8) (a : Fin 4) (n : Fin 1360) :
    ∃ r : ℝ, Mx V0 b a n = (r : EReal) :=
  Mx_real V0 b a n fun b a n m => by
    rw [Sc_eq]
    exact Cert.Spec.sc_real (h b) a n m

end Cert.ReferenceIdeal.Read

end
-- ==== Proof.Equation.lean ====
/-
  The two results are one array: from memories that agree on the arguments, with the scores' parameters real.
-/
module

public import proofs.«01_k».proof.Defs
public import proofs.«01_k».proof.Proof.Pre
public import proofs.«01_k».proof.Proof.KRun
public import proofs.«01_k».proof.Proof.RefFinal

@[expose] public section

set_option maxRecDepth 16384

noncomputable section

namespace Cert.Equation

open Idealize.ShloMosaic Idealize.ShloMosaic.TcCoe Idealize.SL.Sem Cert.KernelIdeal.Final Cert.ReferenceIdeal.Read

variable (m : (ℓ : Loc Cert.KernelIdeal.nD Cert.KernelIdeal.τ Cert.KernelIdeal.sig) → Buf (Elt Ideal) ℓ)

/-- Under the precondition the parameters of the scores are real. -/
theorem scores_real (hpre : Cert.Pre_KernelIdeal_scores_finite (hPre_scores_finite := Cert.Pre_scores_finite.facts) m)
    (c : Dev Cert.KernelIdeal.nD) (b : Fin 8) : Cert.Spec.ScoresReal (kargs m c b) := by
  haveI := Cert.Pre_scores_finite.facts
  obtain ⟨h1, h2, h3, h4, h5, h6⟩ := Cert.Pre_scores_finite.reals _ _ _ _ _ _ _ _ _ _ _ _ _ _ _ _ _ (hpre c)
  exact ⟨fun k => h1 (ix1 k), fun k => h2 (ix1 k), fun k l => h3 (ix2 k l), fun k => h4 (ix1 k),
    fun k l => h5 (ix2 k l), fun k => h6 (ix1 k)⟩

/-- The kernel's result by position. -/
theorem result_at (c : Dev Cert.KernelIdeal.nD) (b : Fin 8) (h w : Fin 32) (l : Fin 4) (j : Fin 128) :
    result m c (ix5 b h w l j)
      = Cert.Spec.finK (kargs m c b) ⟨h.val * 128 + w.val * 4 + l.val, by omega⟩ j := by
  unfold result out
  generalize hz : (fun i : Cert.KernelIdeal.S8x4096x128.Idx => Cert.Spec.finK (kargs m c (i 0)) (i 1) (i 2)) = z
  pointwise
  exact congrFun hz.symm _

/-- An array read by position as the reference's formula is the kernel's result. -/
theorem result_eq (c : Dev Cert.KernelIdeal.nD) (hreal : ∀ b, Cert.Spec.ScoresReal (kargs m c b))
    (T : FVec Ideal Cert.ReferenceIdeal.S8x32x32x4x128 .f32) (M : Fin 8 → Fin 4 → Fin 1360 → EReal)
    (hM : ∀ b a n, ∃ r : ℝ, M b a n = (r : EReal))
    (hT : ∀ b p j, row5 T b p j = Cert.Spec.finR (kargs m c b) (M b) p j) : T = result m c := by
  funext i
  obtain ⟨b, h, w, l, j, rfl⟩ : ∃ (b : Fin 8) (h w : Fin 32) (l : Fin 4) (j : Fin 128), i = ix5 b h w l j :=
    ⟨i 0, i 1, i 2, i 3, i 4, by funext k; fin_cases k <;> rfl⟩
  rw [result_at, Cert.Spec.fin_eq (hreal b) (M b) (hM b), ← hT]
  unfold row5
  have e1 : (⟨(h.val * 128 + w.val * 4 + l.val) / 128, by omega⟩ : Fin 32) = h := Fin.ext (by dsimp only; omega)
  have e2 : (⟨(h.val * 128 + w.val * 4 + l.val) / 4 % 32, by omega⟩ : Fin 32) = w := Fin.ext (by dsimp only; omega)
  have e3 : (⟨(h.val * 128 + w.val * 4 + l.val) % 4, by omega⟩ : Fin 4) = l := Fin.ext (by dsimp only; omega)
  simp only [e1, e2, e3]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frame of the reference at any memory. -/
theorem frame_r : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger: the two named constants. -/
theorem ledger : Cert.preserves_Kernel_KernelIdeal :=
  ⟨IdealRules.named_const.statement Cert.KernelIdeal.κ "qscale" .f32 0x3E8293EE#32
      (((Real.log 2)⁻¹ * (Real.sqrt 32)⁻¹ : ℝ) : EReal) rfl,
    IdealRules.named_const.statement Cert.KernelIdeal.κ "rsqrt2" .f32 0x3F3504F3#32
      (((Real.sqrt 2)⁻¹ : ℝ) : EReal) rfl⟩

/-- The equation of the two results. -/
theorem pair : Cert.algebraic_KernelIdeal_ReferenceIdeal_pre_scores_finite (hKernelIdeal := Cert.KernelIdeal.Gen.facts)
    (hReferenceIdeal := Cert.ReferenceIdeal.Gen.facts) (hPre_scores_finite := Cert.Pre_scores_finite.facts) := by
  intro m g m' g' hpre hagree
  refine ⟨fun c => Cert.KernelIdeal.Final.result m c, ?_, ?_⟩
  · exact θ_run_mono (θ_run_and (Cert.KernelIdeal.Final.result_run m g) (Cert.KernelIdeal.Gen.unchanged m g))
      fun r hr c => ⟨hr.1 c, hr.2 c⟩
  · refine θ_run_mono (Cert.ReferenceIdeal.Value.run (F := Ideal) m' g') fun r hr c => ⟨(hr c).1.trans ?_, (hr c).2⟩
    have hargs : ∀ b, Cert.ReferenceIdeal.Read.rargs (StableHlo.launchContents m' c) b
        = Cert.KernelIdeal.Final.kargs m c b := fun b => by
      obtain ⟨h0, h1, h2, h3, h4, h5, h6, h7, h8, h9, h10, h11, h12, h13, h14, h15, h16⟩ := hagree c
      unfold Cert.ReferenceIdeal.Read.rargs Cert.KernelIdeal.Final.kargs
      simp only [StableHlo.launchContents_devRef, h0, h1, h2, h3, h4, h5, h6, h7, h8, h9, h10, h11, h12, h13, h14, h15, h16]
    have hreal := Cert.Equation.scores_real m hpre c
    refine Cert.Equation.result_eq m c hreal _
      (fun b a n => Cert.ReferenceIdeal.Read.Mx (StableHlo.launchContents m' c) b a n)
      (Cert.ReferenceIdeal.Read.shift_real _ fun b => by rw [hargs]; exact hreal b) fun b p j => ?_
    refine (Cert.ReferenceIdeal.Read.result_at (StableHlo.launchContents m' c) b p j).trans ?_
    rw [hargs]

/-- The certificate. -/
theorem claim : Cert.Claim :=
  ⟨Cert.Kernel.Gen.facts, Cert.KernelIdeal.Gen.facts, Cert.ReferenceIdeal.Gen.facts, Cert.Pre_scores_finite.facts,
    fun m ρ _ => Cert.Kernel.Gen.frame m ρ, fun m ρ _ => Cert.KernelIdeal.Gen.frame m ρ,
    fun m ρ _ => Cert.KernelIdeal.Gen.frame m ρ, frame_r, fun m ρ _ => frame_r m ρ trivial, ledger, pair⟩

end Cert.Proof

end
